-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_ExpertsIdeal (m : (ℓ : Loc Cert.ExpertsIdeal.nD Cert.ExpertsIdeal.τ Cert.ExpertsIdeal.sig) → Buf (Elt Ideal) ℓ) : Prop :=
  True

def Pre_ExpertsIdeal_experts_in_range [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_ProjectIdeal (m : (ℓ : Loc Cert.ProjectIdeal.nD Cert.ProjectIdeal.τ Cert.ProjectIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_experts_in_range [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_experts_in_range m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def preserves_Kernel_KernelIdeal : Prop :=
  IdealRules.named_const.Statement Cert.KernelIdeal.κ "qs" .f32 0x3E0293EE#32 (((Real.log 2)⁻¹ * (11863283 / 134217728) : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Moe_MoeIdeal : Prop :=
  True

def algebraic_MoeIdeal_ExpertsIdeal [hMoeIdeal : Cert.MoeIdeal.Facts] [hExpertsIdeal : Cert.ExpertsIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.ExpertsIdeal.nD Cert.ExpertsIdeal.τ Cert.ExpertsIdeal.sig) → Buf (Elt Ideal) ℓ) (g' : Dev Cert.ExpertsIdeal.nD → PrngReg), Pre_MoeIdeal m →
    (∀ c : Dev Cert.MoeIdeal.nD,
      m' ((c.tc : Thread Cert.ExpertsIdeal.nD Cert.ExpertsIdeal.τ).loc Cert.ExpertsIdeal.main_arg0) = m ((c.tc : Thread Cert.MoeIdeal.nD Cert.MoeIdeal.τ).loc Cert.MoeIdeal.main_arg0)
      ∧ m' ((c.tc : Thread Cert.ExpertsIdeal.nD Cert.ExpertsIdeal.τ).loc Cert.ExpertsIdeal.main_arg1) = m ((c.tc : Thread Cert.MoeIdeal.nD Cert.MoeIdeal.τ).loc Cert.MoeIdeal.main_arg1)
      ∧ m' ((c.tc : Thread Cert.ExpertsIdeal.nD Cert.ExpertsIdeal.τ).loc Cert.ExpertsIdeal.main_arg2) = m ((c.tc : Thread Cert.MoeIdeal.nD Cert.MoeIdeal.τ).loc Cert.MoeIdeal.main_arg2)
      ∧ m' ((c.tc : Thread Cert.ExpertsIdeal.nD Cert.ExpertsIdeal.τ).loc Cert.ExpertsIdeal.main_arg3) = m ((c.tc : Thread Cert.MoeIdeal.nD Cert.MoeIdeal.τ).loc Cert.MoeIdeal.main_arg3)
      ∧ m' ((c.tc : Thread Cert.ExpertsIdeal.nD Cert.ExpertsIdeal.τ).loc Cert.ExpertsIdeal.main_arg4) = m ((c.tc : Thread Cert.MoeIdeal.nD Cert.MoeIdeal.τ).loc Cert.MoeIdeal.main_arg4)
      ∧ m' ((c.tc : Thread Cert.ExpertsIdeal.nD Cert.ExpertsIdeal.τ).loc Cert.ExpertsIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.ExpertsIdeal.defs (F := Ideal)) (onTc (τ := Cert.ExpertsIdeal.τ) (Cert.ExpertsIdeal.main (F := Ideal))) ⟨m', fun _ => 0, g'⟩ (fun r => ∀ c : Dev Cert.ExpertsIdeal.nD,
          r.2.mem ((c.tc : Thread Cert.ExpertsIdeal.nD Cert.ExpertsIdeal.τ).loc Cert.ExpertsIdeal.main_v31) = v0 c
          ∧ r.2.mem ((c.tc : Thread Cert.ExpertsIdeal.nD Cert.ExpertsIdeal.τ).loc Cert.ExpertsIdeal.main_arg0) = m' ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m' ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m' ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m' ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m' ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m' ((c.tc : Thread Cert.ExpertsIdeal.nD Cert.ExpertsIdeal.τ).loc Cert.ExpertsIdeal.main_arg5))

def preserves_Inproj_InprojIdeal : Prop :=
  True

def algebraic_InprojIdeal_ProjectIdeal [hInprojIdeal : Cert.InprojIdeal.Facts] [hProjectIdeal : Cert.ProjectIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.ProjectIdeal.nD Cert.ProjectIdeal.τ Cert.ProjectIdeal.sig) → Buf (Elt Ideal) ℓ) (g' : Dev Cert.ProjectIdeal.nD → PrngReg), Pre_InprojIdeal m →
    (∀ c : Dev Cert.InprojIdeal.nD,
      m' ((c.tc : Thread Cert.ProjectIdeal.nD Cert.ProjectIdeal.τ).loc Cert.ProjectIdeal.main_arg0) = m ((c.tc : Thread Cert.InprojIdeal.nD Cert.InprojIdeal.τ).loc Cert.InprojIdeal.main_arg0)
      ∧ m' ((c.tc : Thread Cert.ProjectIdeal.nD Cert.ProjectIdeal.τ).loc Cert.ProjectIdeal.main_arg1) = m ((c.tc : Thread Cert.InprojIdeal.nD Cert.InprojIdeal.τ).loc Cert.InprojIdeal.main_arg1)
      ∧ m' ((c.tc : Thread Cert.ProjectIdeal.nD Cert.ProjectIdeal.τ).loc Cert.ProjectIdeal.main_arg2) = m ((c.tc : Thread Cert.InprojIdeal.nD Cert.InprojIdeal.τ).loc Cert.InprojIdeal.main_arg2)
      ∧ m' ((c.tc : Thread Cert.ProjectIdeal.nD Cert.ProjectIdeal.τ).loc Cert.ProjectIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.ProjectIdeal.defs (F := Ideal)) (onTc (τ := Cert.ProjectIdeal.τ) (Cert.ProjectIdeal.main (F := Ideal))) ⟨m', fun _ => 0, g'⟩ (fun r => ∀ c : Dev Cert.ProjectIdeal.nD,
          r.2.mem ((c.tc : Thread Cert.ProjectIdeal.nD Cert.ProjectIdeal.τ).loc Cert.ProjectIdeal.main_v25) = v0 c
          ∧ r.2.mem ((c.tc : Thread Cert.ProjectIdeal.nD Cert.ProjectIdeal.τ).loc Cert.ProjectIdeal.main_arg0) = m' ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m' ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m' ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m' ((c.tc : Thread Cert.ProjectIdeal.nD Cert.ProjectIdeal.τ).loc Cert.ProjectIdeal.main_arg3))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hExpertsIdeal : Cert.ExpertsIdeal.Facts) (hInproj : Cert.Inproj.Facts) (hInprojIdeal : Cert.InprojIdeal.Facts) (hProjectIdeal : Cert.ProjectIdeal.Facts) (hPre_finite_qk : Cert.Pre_finite_qk.Facts) (hPre_experts_in_range : Cert.Pre_experts_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Moe (hMoe := hMoe) (hPre_experts_in_range := hPre_experts_in_range)
    ∧ quiescent_MoeIdeal (hMoeIdeal := hMoeIdeal) (hPre_experts_in_range := hPre_experts_in_range)
    ∧ quiescent_ExpertsIdeal (hExpertsIdeal := hExpertsIdeal)
    ∧ quiescent_ExpertsIdeal_pre_experts_in_range (hExpertsIdeal := hExpertsIdeal) (hPre_experts_in_range := hPre_experts_in_range)
    ∧ quiescent_Inproj (hInproj := hInproj)
    ∧ quiescent_InprojIdeal (hInprojIdeal := hInprojIdeal)
    ∧ quiescent_ProjectIdeal (hProjectIdeal := hProjectIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Moe_MoeIdeal
    ∧ algebraic_MoeIdeal_ExpertsIdeal (hMoeIdeal := hMoeIdeal) (hExpertsIdeal := hExpertsIdeal) (hPre_experts_in_range := hPre_experts_in_range)
    ∧ preserves_Inproj_InprojIdeal
    ∧ algebraic_InprojIdeal_ProjectIdeal (hInprojIdeal := hInprojIdeal) (hProjectIdeal := hProjectIdeal)
-- ==== Pre_experts_in_range.lean ====
abbrev S19200x1024 : Shape := ⟨2, ![19200, 1024]⟩
abbrev S50 : Shape := ⟨1, ![50]⟩
abbrev S1 : Shape := ⟨1, ![1]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S50 : S_.BroadcastsInDim S50 (![] : Fin 0 → Fin S50.rank)
  reducesTo_S50_S_d0 : S50.ReducesTo [0] S_
  h_S_ : 0 < S_.numel

variable [Facts]

def fn {F : FTy → Type} [FloatOps F] (main_arg0 : FVec F S19200x1024 .bf16) (main_arg1 : IVec S50 32) (main_arg2 : IVec S1 32) (main_arg3 : FVec F S8x1024x2816 .bf16) (main_arg4 : FVec F S8x1024x2816 .bf16) (main_arg5 : FVec F S8x2816x1024 .bf16) : IVec S_ 1 :=
  let main_c : IVec S_ 32 := constantI S_ 32 0#32
  let main_v0 : IVec S50 32 := broadcastInDim S50 ![] bcast_S_S50 main_c
  let main_v1 : IVec S50 1 := cmpi .sge main_arg1 main_v0
  let main_c_0 : IVec S_ 32 := constantI S_ 32 8#32
  let main_v2 : IVec S50 32 := broadcastInDim S50 ![] bcast_S_S50 main_c_0
  let main_v3 : IVec S50 1 := cmpi .slt main_arg1 main_v2
  let main_v4 : IVec S50 1 := andi main_v1 main_v3
  let main_c_1 : IVec S_ 1 := constantI S_ 1 1#1
  let main_v5 : IVec S_ 1 := (fun x v => Host.reduce IntOp.andi x v reducesTo_S50_S_d0 h_S_) main_v4 main_c_1
  main_v5
-- ==== Pre_finite_qk.lean ====
abbrev S8192x10752 : Shape := ⟨2, ![8192, 10752]⟩
abbrev S2x4352x256 : Shape := ⟨3, ![2, 4352, 256]⟩
abbrev S128 : Shape := ⟨1, ![128]⟩
abbrev S_ : Shape := ⟨0, ![]⟩

class Facts : Prop where
  bitsLt_bf16_f32 : FTy.bits .bf16 < FTy.bits .f32
  bcast_S_S8192x10752 : S_.BroadcastsInDim S8192x10752 (![] : Fin 0 → Fin S8192x10752.rank)
  reducesTo_S8192x10752_S_d0_1 : S8192x10752.ReducesTo [0, 1] S_
  h_S_ : 0 < S_.numel
  bcast_S_S2x4352x256 : S_.BroadcastsInDim S2x4352x256 (![] : Fin 0 → Fin S2x4352x256.rank)
  reducesTo_S2x4352x256_S_d0_1_2 : S2x4352x256.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x10752 .bf16) (main_arg1 : FVec F S2x4352x256 .bf16) (main_arg2 : FVec F S2x4352x256 .bf16) (main_arg3 : FVec F S128 .f32) : IVec S_ 1 :=
  let main_v0 : FVec F S8192x10752 .f32 := (extf .f32 · bitsLt_bf16_f32) main_arg0
  let main_v1 : FVec F S8192x10752 .f32 := Host.absf main_v0
  let main_cst : FVec F S_ .f32 := constant S_ .f32 0x7F800000#32
  let main_v2 : FVec F S8192x10752 .f32 := broadcastInDim S8192x10752 ![] bcast_S_S8192x10752 main_cst
  let main_v3 : IVec S8192x10752 1 := cmpf .olt main_v1 main_v2
  let main_c : IVec S_ 1 := constantI S_ 1 1#1
  let main_v4 : IVec S_ 1 := (fun x v => Host.reduce IntOp.andi x v reducesTo_S8192x10752_S_d0_1 h_S_) main_v3 main_c
  let main_v5 : FVec F S2x4352x256 .f32 := (extf .f32 · bitsLt_bf16_f32) main_arg1
  let main_v6 : FVec F S2x4352x256 .f32 := Host.absf main_v5
  let main_cst_0 : FVec F S_ .f32 := constant S_ .f32 0x7F800000#32
  let main_v7 : FVec F S2x4352x256 .f32 := broadcastInDim S2x4352x256 ![] bcast_S_S2x4352x256 main_cst_0
  let main_v8 : IVec S2x4352x256 1 := cmpf .olt main_v6 main_v7
  let main_c_1 : IVec S_ 1 := constantI S_ 1 1#1
  let main_v9 : IVec S_ 1 := (fun x v => Host.reduce IntOp.andi x v reducesTo_S2x4352x256_S_d0_1_2 h_S_) main_v8 main_c_1
  let main_v10 : IVec S_ 1 := andi main_v4 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  main_v15
-- ==== Kernel.lean ====
abbrev S8192x10752 : Shape := ⟨2, ![8192, 10752]⟩
abbrev S2x4352x256 : Shape := ⟨3, ![2, 4352, 256]⟩
abbrev S128 : Shape := ⟨1, ![128]⟩
abbrev S64x64 : Shape := ⟨2, ![64, 64]⟩
abbrev S4096x1 : Shape := ⟨2, ![4096, 1]⟩
abbrev S2x2x32 : Shape := ⟨3, ![2, 2, 32]⟩
abbrev S1x128 : Shape := ⟨2, ![1, 128]⟩
abbrev S_ : Shape := ⟨0, ![]⟩
abbrev S4096x128 : Shape := ⟨2, ![4096, 128]⟩
abbrev S8192x1024 : Shape := ⟨2, ![8192, 1024]⟩
abbrev S256x1024 : Shape := ⟨2, ![256, 1024]⟩
abbrev S256x128 : Shape := ⟨2, ![256, 128]⟩
abbrev S1x4352x256 : Shape := ⟨3, ![1, 4352, 256]⟩
abbrev S1x4352x128 : Shape := ⟨3, ![1, 4352, 128]⟩
abbrev S4352x128 : Shape := ⟨2, ![4352, 128]⟩
abbrev S256 : Shape := ⟨1, ![256]⟩
abbrev S256x1 : Shape := ⟨2, ![256, 1]⟩
abbrev S256x4352 : Shape := ⟨2, ![256, 4352]⟩

abbrev nBuf : Space → Nat
  | .hbm => 45
  | .vmem => 15
  | .smem => 0
  | _ => 0

abbrev bufTy : (tb : Table) → Fin (tcTables nBuf tb) → BufTy
  | .hbm, ⟨0, _⟩ => ⟨S8192x10752, .bf16⟩
  | .hbm, ⟨1, _⟩ => ⟨S2x4352x256, .bf16⟩
  | .hbm, ⟨2, _⟩ => ⟨S2x4352x256, .bf16⟩
  | .hbm, ⟨3, _⟩ => ⟨S128, .f32⟩
  | .hbm, ⟨4, _⟩ => ⟨S64x64, .i32⟩
  | .hbm, ⟨5, _⟩ => ⟨S4096x1, .i32⟩
  | .hbm, ⟨6, _⟩ => ⟨S64x64, .i32⟩
  | .hbm, ⟨7, _⟩ => ⟨S4096x1, .i32⟩
  | .hbm, ⟨8, _⟩ => ⟨S2x2x32, .i32⟩
  | .hbm, ⟨9, _⟩ => ⟨S1x128, .i32⟩
  | .hbm, ⟨10, _⟩ => ⟨S2x2x32, .i32⟩
  | .hbm, ⟨11, _⟩ => ⟨S1x128, .i32⟩
  | .hbm, ⟨12, _⟩ => ⟨S2x2x32, .i32⟩
  | .hbm, ⟨13, _⟩ => ⟨S1x128, .i32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .i32⟩
  | .hbm, ⟨23, _⟩ => ⟨S1x128, .i32⟩
  | .hbm, ⟨24, _⟩ => ⟨S1x128, .i1⟩
  | .hbm, ⟨25, _⟩ => ⟨S4096x128, .i1⟩
  | .hbm, ⟨26, _⟩ => ⟨S4096x128, .i32⟩
  | .hbm, ⟨27, _⟩ => ⟨S4096x128, .i32⟩
  | .hbm, ⟨28, _⟩ => ⟨S4096x128, .i32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S4096x128, .i1⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S1x128, .f32⟩
  | .hbm, ⟨44, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x4352x256, .bf16⟩
  | .local _ .vmem, ⟨10, _⟩ => ⟨S1x4352x256, .bf16⟩
  | .local _ .vmem, ⟨11, _⟩ => ⟨S1x4352x256, .bf16⟩
  | .local _ .vmem, ⟨12, _⟩ => ⟨S1x4352x256, .bf16⟩
  | .local _ .vmem, ⟨13, _⟩ => ⟨S256x1024, .bf16⟩
  | .local _ .vmem, ⟨14, _⟩ => ⟨S256x1024, .bf16⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4352x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4352x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "qs" => some (((Real.log 2)⁻¹ * (11863283 / 134217728) : ℝ) : EReal)
  | _ => none
-- ==== ReferenceIdeal.lean ====
abbrev S8192x10752 : Shape := ⟨2, ![8192, 10752]⟩
abbrev S2x4352x256 : Shape := ⟨3, ![2, 4352, 256]⟩
abbrev S128 : Shape := ⟨1, ![128]⟩
abbrev S4096 : Shape := ⟨1, ![4096]⟩
abbrev S_ : Shape := ⟨0, ![]⟩
abbrev S8192x1024 : Shape := ⟨2, ![8192, 1024]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S2x4096x8x64 : Shape := ⟨4, ![2, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S2x4352x2x128 : Shape := ⟨4, ![2, 4352, 2, 128]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩

abbrev nBuf : Space → Nat
  | .hbm => 165
  | .vmem => 0
  | .smem => 0
  | _ => 0

abbrev hbmTy0_0 (i : Nat) : BufTy := match i % 128 with
  | 0 => ⟨S8192x10752, .bf16⟩
  | 1 => ⟨S2x4352x256, .bf16⟩
  | 2 => ⟨S2x4352x256, .bf16⟩
  | 3 => ⟨S128, .f32⟩
  | 4 => ⟨S4096, .i32⟩
  | 5 => ⟨S_, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S4096, .i32⟩
  | 14 => ⟨S4096, .i32⟩
  | 15 => ⟨S_, .i32⟩
  | 16 => ⟨S4096, .i32⟩
  | 17 => ⟨S4096, .i1⟩
  | 18 => ⟨S4096, .i1⟩
  | 19 => ⟨S_, .i32⟩
  | 20 => ⟨S4096, .i32⟩
  | 21 => ⟨S4096, .i32⟩
  | 22 => ⟨S4096, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i1⟩
  | 34 => ⟨S_, .i32⟩
  | 35 => ⟨S4096, .i32⟩
  | 36 => ⟨S4096, .i1⟩
  | 37 => ⟨S_, .i32⟩
  | 38 => ⟨S_, .i1⟩
  | 39 => ⟨S4096, .i1⟩
  | 40 => ⟨S4096, .i1⟩
  | 41 => ⟨S4096, .i1⟩
  | 42 => ⟨S4096, .i32⟩
  | 43 => ⟨S4096, .i32⟩
  | 44 => ⟨S4096, .i32⟩
  | 45 => ⟨S8192x10752, .f32⟩
  | 46 => ⟨S8192x1024, .f32⟩
  | 47 => ⟨S2x4096x8x128, .f32⟩
  | 48 => ⟨S2x4096x8x128, .f32⟩
  | 49 => ⟨S_, .f32⟩
  | 50 => ⟨S2x4096x8, .f32⟩
  | 51 => ⟨S2x4096x8x1, .f32⟩
  | 52 => ⟨S_, .f32⟩
  | 53 => ⟨S2x4096x8x1, .f32⟩
  | 54 => ⟨S2x4096x8x1, .f32⟩
  | 55 => ⟨S_, .f32⟩
  | 56 => ⟨S2x4096x8x1, .f32⟩
  | 57 => ⟨S2x4096x8x1, .f32⟩
  | 58 => ⟨S2x4096x8x1, .f32⟩
  | 59 => ⟨S2x4096x8x128, .f32⟩
  | 60 => ⟨S2x4096x8x128, .f32⟩
  | 61 => ⟨S1x1x1x128, .f32⟩
  | 62 => ⟨S2x4096x8x128, .f32⟩
  | 63 => ⟨S2x4096x8x128, .f32⟩
  | 64 => ⟨S2x4096x8x64, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S4096, .f32⟩
  | 74 => ⟨S4096x1, .f32⟩
  | 75 => ⟨S1x32, .f32⟩
  | 76 => ⟨S4096x32, .f32⟩
  | 77 => ⟨S4096x32, .f32⟩
  | 78 => ⟨S4096x32, .f32⟩
  | 79 => ⟨S4096x32, .f32⟩
  | 80 => ⟨S4096x1x32, .f32⟩
  | 81 => ⟨S4096x32, .f32⟩
  | 82 => ⟨S4096x1x32, .f32⟩
  | 83 => ⟨S2x4096x8x32, .f32⟩
  | 84 => ⟨S2x4096x8x32, .f32⟩
  | 85 => ⟨S1x4096x1x32, .f32⟩
  | 86 => ⟨S2x4096x8x32, .f32⟩
  | 87 => ⟨S2x4096x8x32, .f32⟩
  | 88 => ⟨S1x4096x1x32, .f32⟩
  | 89 => ⟨S2x4096x8x32, .f32⟩
  | 90 => ⟨S2x4096x8x32, .f32⟩
  | 91 => ⟨S2x4096x8x32, .f32⟩
  | 92 => ⟨S1x4096x1x32, .f32⟩
  | 93 => ⟨S2x4096x8x32, .f32⟩
  | 94 => ⟨S2x4096x8x32, .f32⟩
  | 95 => ⟨S1x4096x1x32, .f32⟩
  | 96 => ⟨S2x4096x8x32, .f32⟩
  | 97 => ⟨S2x4096x8x32, .f32⟩
  | 98 => ⟨S2x4096x8x32, .f32⟩
  | 99 => ⟨S2x4096x8x64, .f32⟩
  | 100 => ⟨S2x4096x8x64, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S4096, .f32⟩
  | 110 => ⟨S4096x1, .f32⟩
  | 111 => ⟨S1x32, .f32⟩
  | 112 => ⟨S4096x32, .f32⟩
  | 113 => ⟨S4096x32, .f32⟩
  | 114 => ⟨S4096x32, .f32⟩
  | 115 => ⟨S4096x32, .f32⟩
  | 116 => ⟨S4096x1x32, .f32⟩
  | 117 => ⟨S4096x32, .f32⟩
  | 118 => ⟨S4096x1x32, .f32⟩
  | 119 => ⟨S2x4096x8x32, .f32⟩
  | 120 => ⟨S2x4096x8x32, .f32⟩
  | 121 => ⟨S1x4096x1x32, .f32⟩
  | 122 => ⟨S2x4096x8x32, .f32⟩
  | 123 => ⟨S2x4096x8x32, .f32⟩
  | 124 => ⟨S1x4096x1x32, .f32⟩
  | 125 => ⟨S2x4096x8x32, .f32⟩
  | 126 => ⟨S2x4096x8x32, .f32⟩
  | 127 => ⟨S2x4096x8x32, .f32⟩
  | _ => ⟨S8192x10752, .bf16⟩

abbrev hbmTy0_1 (i : Nat) : BufTy := match i % 128 with
  | 0 => ⟨S1x4096x1x32, .f32⟩
  | 1 => ⟨S2x4096x8x32, .f32⟩
  | 2 => ⟨S2x4096x8x32, .f32⟩
  | 3 => ⟨S1x4096x1x32, .f32⟩
  | 4 => ⟨S2x4096x8x32, .f32⟩
  | 5 => ⟨S2x4096x8x32, .f32⟩
  | 6 => ⟨S2x4096x8x32, .f32⟩
  | 7 => ⟨S2x4096x8x64, .f32⟩
  | 8 => ⟨S2x4096x8x128, .f32⟩
  | 9 => ⟨S2x4352x256, .f32⟩
  | 10 => ⟨S2x4352x2x128, .f32⟩
  | 11 => ⟨S2x4352x256, .f32⟩
  | 12 => ⟨S2x4352x2x128, .f32⟩
  | 13 => ⟨S2x4096x2x4x128, .f32⟩
  | 14 => ⟨S2x2x4352x4096x4, .f32⟩
  | 15 => ⟨S2x2x4x4096x4352, .f32⟩
  | 16 => ⟨S_, .f32⟩
  | 17 => ⟨S2x2x4x4096x4352, .f32⟩
  | 18 => ⟨S2x2x4x4096x4352, .f32⟩
  | 19 => ⟨S_, .f32⟩
  | 20 => ⟨S2x2x4x4096, .f32⟩
  | 21 => ⟨S_, .f32⟩
  | 22 => ⟨S2x2x4x4096, .f32⟩
  | 23 => ⟨S2x2x4x4096, .f32⟩
  | 24 => ⟨S2x2x4x4096x1, .f32⟩
  | 25 => ⟨S2x2x4x4096x4352, .f32⟩
  | 26 => ⟨S2x2x4x4096x4352, .f32⟩
  | 27 => ⟨S2x2x4x4096x4352, .f32⟩
  | 28 => ⟨S_, .f32⟩
  | 29 => ⟨S2x2x4x4096, .f32⟩
  | 30 => ⟨S2x2x4x4096x1, .f32⟩
  | 31 => ⟨S2x2x4x4096x4352, .f32⟩
  | 32 => ⟨S2x2x4x4096x4352, .f32⟩
  | 33 => ⟨S2x2x128x4x4096, .f32⟩
  | 34 => ⟨S2x4096x2x4x128, .f32⟩
  | 35 => ⟨S8192x1024, .f32⟩
  | 36 => ⟨S8192x1024, .bf16⟩
  | _ => ⟨S8192x10752, .bf16⟩

abbrev hbmTy (i : Nat) : BufTy := match i / 128 with
  | 0 => hbmTy0_0 i
  | 1 => hbmTy0_1 i
  | _ => ⟨S8192x10752, .bf16⟩

abbrev bufTy : (tb : Table) → Fin (tcTables nBuf tb) → BufTy
  | .hbm, ⟨i, _⟩ => hbmTy i
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev main_cst_4 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_5 : Ref sig .tc := ⟨.hbm, 103, rfl⟩
abbrev main_v56 : Ref sig .tc := ⟨.hbm, 104, rfl⟩
abbrev main_v57 : Ref sig .tc := ⟨.hbm, 105, rfl⟩
abbrev main_cst_6 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_7 : Ref sig .tc := ⟨.hbm, 144, rfl⟩
abbrev main_v95 : Ref sig .tc := ⟨.hbm, 145, rfl⟩
abbrev main_v96 : Ref sig .tc := ⟨.hbm, 146, rfl⟩
abbrev main_cst_8 : Ref sig .tc := ⟨.hbm, 147, rfl⟩
abbrev main_v97 : Ref sig .tc := ⟨.hbm, 148, rfl⟩
abbrev main_cst_9 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_10 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩

abbrev nD : Nat := 1
abbrev τ : Topo := Topo.v7x

variable {F : FTy → Type} [FloatOps F]
-- ==== Moe.lean ====
abbrev S19200x1024 : Shape := ⟨2, ![19200, 1024]⟩
abbrev S50 : Shape := ⟨1, ![50]⟩
abbrev S1 : Shape := ⟨1, ![1]⟩
abbrev S8x1024x2816 : Shape := ⟨3, ![8, 1024, 2816]⟩
abbrev S8x2816x1024 : Shape := ⟨3, ![8, 2816, 1024]⟩
abbrev S384x1024 : Shape := ⟨2, ![384, 1024]⟩
abbrev S1x1024x2816 : Shape := ⟨3, ![1, 1024, 2816]⟩
abbrev S1x2816x1024 : Shape := ⟨3, ![1, 2816, 1024]⟩
abbrev S1x1024x1536 : Shape := ⟨3, ![1, 1024, 1536]⟩
abbrev S1024x1536 : Shape := ⟨2, ![1024, 1536]⟩
abbrev S384x1536 : Shape := ⟨2, ![384, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S384x1280 : Shape := ⟨2, ![384, 1280]⟩
abbrev S1x1280x1024 : Shape := ⟨3, ![1, 1280, 1024]⟩
abbrev S1280x1024 : Shape := ⟨2, ![1280, 1024]⟩

abbrev nBuf : Space → Nat
  | .hbm => 5
  | .vmem => 10
  | .smem => 2
  | _ => 0

abbrev bufTy : (tb : Table) → Fin (tcTables nBuf tb) → BufTy
  | .hbm, ⟨0, _⟩ => ⟨S19200x1024, .bf16⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S19200x1024, .bf16⟩
  | .local _ .vmem, ⟨0, _⟩ => ⟨S384x1024, .bf16⟩
  | .local _ .vmem, ⟨1, _⟩ => ⟨S384x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S384x1024, .bf16⟩
  | .local _ .vmem, ⟨9, _⟩ => ⟨S384x1024, .bf16⟩
  | .local _ .smem, ⟨0, _⟩ => ⟨S50, .i32⟩
  | .local _ .smem, ⟨1, _⟩ => ⟨S1, .i32⟩
  | _, _ => ⟨S19200x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![50], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S50) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S50) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S50) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsIdeal.lean ====
abbrev S19200x1024 : Shape := ⟨2, ![19200, 1024]⟩
abbrev S50 : Shape := ⟨1, ![50]⟩
abbrev S1 : Shape := ⟨1, ![1]⟩
abbrev S8x1024x2816 : Shape := ⟨3, ![8, 1024, 2816]⟩
abbrev S8x2816x1024 : Shape := ⟨3, ![8, 2816, 1024]⟩
abbrev S50x1 : Shape := ⟨2, ![50, 1]⟩
abbrev S8 : Shape := ⟨1, ![8]⟩
abbrev S1x8 : Shape := ⟨2, ![1, 8]⟩
abbrev S50x8 : Shape := ⟨2, ![50, 8]⟩
abbrev S1x1 : Shape := ⟨2, ![1, 1]⟩
abbrev S_ : Shape := ⟨0, ![]⟩
abbrev S50x1x8 : Shape := ⟨3, ![50, 1, 8]⟩
abbrev S50x384x8 : Shape := ⟨3, ![50, 384, 8]⟩
abbrev S19200x8 : Shape := ⟨2, ![19200, 8]⟩
abbrev S19200x8x2816 : Shape := ⟨3, ![19200, 8, 2816]⟩
abbrev S8x19200x1024 : Shape := ⟨3, ![8, 19200, 1024]⟩
abbrev S8x19200 : Shape := ⟨2, ![8, 19200]⟩
abbrev S8x19200x1 : Shape := ⟨3, ![8, 19200, 1]⟩

abbrev nBuf : Space → Nat
  | .hbm => 51
  | .vmem => 0
  | .smem => 0
  | _ => 0

abbrev bufTy : (tb : Table) → Fin (tcTables nBuf tb) → BufTy
  | .hbm, ⟨0, _⟩ => ⟨S19200x1024, .bf16⟩
  | .hbm, ⟨1, _⟩ => ⟨S50, .i32⟩
  | .hbm, ⟨2, _⟩ => ⟨S1, .i32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S19200x1024, .f32⟩
  | .hbm, ⟨7, _⟩ => ⟨S50x1, .i32⟩
  | .hbm, ⟨8, _⟩ => ⟨S8, .i32⟩
  | .hbm, ⟨9, _⟩ => ⟨S1x8, .i32⟩
  | .hbm, ⟨10, _⟩ => ⟨S50x8, .i32⟩
  | .hbm, ⟨11, _⟩ => ⟨S50x8, .i32⟩
  | .hbm, ⟨12, _⟩ => ⟨S50x8, .i1⟩
  | .hbm, ⟨13, _⟩ => ⟨S50, .i32⟩
  | .hbm, ⟨14, _⟩ => ⟨S50x1, .i32⟩
  | .hbm, ⟨15, _⟩ => ⟨S1x1, .i32⟩
  | .hbm, ⟨16, _⟩ => ⟨S50x1, .i32⟩
  | .hbm, ⟨17, _⟩ => ⟨S50x1, .i1⟩
  | .hbm, ⟨18, _⟩ => ⟨S50x8, .i1⟩
  | .hbm, ⟨19, _⟩ => ⟨S50x8, .i1⟩
  | .hbm, ⟨20, _⟩ => ⟨S_, .f32⟩
  | .hbm, ⟨21, _⟩ => ⟨S_, .f32⟩
  | .hbm, ⟨22, _⟩ => ⟨S50x8, .f32⟩
  | .hbm, ⟨23, _⟩ => ⟨S50x8, .f32⟩
  | .hbm, ⟨24, _⟩ => ⟨S50x8, .f32⟩
  | .hbm, ⟨25, _⟩ => ⟨S50x1x8, .f32⟩
  | .hbm, ⟨26, _⟩ => ⟨S50x384x8, .f32⟩
  | .hbm, ⟨27, _⟩ => ⟨S19200x8, .f32⟩
  | .hbm, ⟨28, _⟩ => ⟨S8x1024x2816, .f32⟩
  | .hbm, ⟨29, _⟩ => ⟨S19200x8x2816, .f32⟩
  | .hbm, ⟨30, _⟩ => ⟨S8x1024x2816, .f32⟩
  | .hbm, ⟨31, _⟩ => ⟨S19200x8x2816, .f32⟩
  | .hbm, ⟨32, _⟩ => ⟨S19200x8x2816, .f32⟩
  | .hbm, ⟨33, _⟩ => ⟨S19200x8x2816, .f32⟩
  | .hbm, ⟨34, _⟩ => ⟨S_, .f32⟩
  | .hbm, ⟨35, _⟩ => ⟨S19200x8x2816, .f32⟩
  | .hbm, ⟨36, _⟩ => ⟨S19200x8x2816, .f32⟩
  | .hbm, ⟨37, _⟩ => ⟨S_, .f32⟩
  | .hbm, ⟨38, _⟩ => ⟨S19200x8x2816, .f32⟩
  | .hbm, ⟨39, _⟩ => ⟨S19200x8x2816, .f32⟩
  | .hbm, ⟨40, _⟩ => ⟨S19200x8x2816, .f32⟩
  | .hbm, ⟨41, _⟩ => ⟨S19200x8x2816, .f32⟩
  | .hbm, ⟨42, _⟩ => ⟨S8x2816x1024, .f32⟩
  | .hbm, ⟨43, _⟩ => ⟨S8x19200x1024, .f32⟩
  | .hbm, ⟨44, _⟩ => ⟨S8x19200, .f32⟩
  | .hbm, ⟨45, _⟩ => ⟨S8x19200x1, .f32⟩
  | .hbm, ⟨46, _⟩ => ⟨S8x19200x1024, .f32⟩
  | .hbm, ⟨47, _⟩ => ⟨S8x19200x1024, .f32⟩
  | .hbm, ⟨48, _⟩ => ⟨S_, .f32⟩
  | .hbm, ⟨49, _⟩ => ⟨S19200x1024, .f32⟩
  | .hbm, ⟨50, _⟩ => ⟨S19200x1024, .bf16⟩
  | _, _ => ⟨S19200x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Inproj.lean ====
abbrev S2x4096x1024 : Shape := ⟨3, ![2, 4096, 1024]⟩
abbrev S2x6x1024 : Shape := ⟨3, ![2, 6, 1024]⟩
abbrev S1024 : Shape := ⟨1, ![1024]⟩
abbrev S10752x1024 : Shape := ⟨2, ![10752, 1024]⟩
abbrev S_ : Shape := ⟨0, ![]⟩
abbrev S2x8x1024 : Shape := ⟨3, ![2, 8, 1024]⟩
abbrev S8192x1024 : Shape := ⟨2, ![8192, 1024]⟩
abbrev S1x1024 : Shape := ⟨2, ![1, 1024]⟩
abbrev S8192x10752 : Shape := ⟨2, ![8192, 10752]⟩
abbrev S2048x1024 : Shape := ⟨2, ![2048, 1024]⟩
abbrev S1x8x1024 : Shape := ⟨3, ![1, 8, 1024]⟩
abbrev S1536x1024 : Shape := ⟨2, ![1536, 1024]⟩
abbrev S2048x1536 : Shape := ⟨2, ![2048, 1536]⟩
abbrev S2048 : Shape := ⟨1, ![2048]⟩
abbrev S2048x1 : Shape := ⟨2, ![2048, 1]⟩
abbrev S1x1x1024 : Shape := ⟨3, ![1, 1, 1024]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S2x6x1024, .f32⟩
  | .hbm, ⟨2, _⟩ => ⟨S1024, .f32⟩
  | .hbm, ⟨3, _⟩ => ⟨S10752x1024, .bf16⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S8192x1024, .f32⟩
  | .hbm, ⟨8, _⟩ => ⟨S1x1024, .f32⟩
  | .hbm, ⟨9, _⟩ => ⟨S8192x10752, .bf16⟩
  | .local _ .vmem, ⟨0, _⟩ => ⟨S2048x1024, .f32⟩
  | .local _ .vmem, ⟨1, _⟩ => ⟨S2048x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1536x1024, .bf16⟩
  | .local _ .vmem, ⟨6, _⟩ => ⟨S1536x1024, .bf16⟩
  | .local _ .vmem, ⟨7, _⟩ => ⟨S2048x1536, .bf16⟩
  | .local _ .vmem, ⟨8, _⟩ => ⟨S2048x1536, .bf16⟩
  | .local _ .vmem, ⟨9, _⟩ => ⟨S2048x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjectIdeal.lean ====
abbrev S2x4096x1024 : Shape := ⟨3, ![2, 4096, 1024]⟩
abbrev S2x6x1024 : Shape := ⟨3, ![2, 6, 1024]⟩
abbrev S1024 : Shape := ⟨1, ![1024]⟩
abbrev S10752x1024 : Shape := ⟨2, ![10752, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1024x10752 : Shape := ⟨2, ![1024, 10752]⟩
abbrev S8192x10752 : Shape := ⟨2, ![8192, 10752]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x6x1024, .f32⟩
  | .hbm, ⟨2, _⟩ => ⟨S1024, .f32⟩
  | .hbm, ⟨3, _⟩ => ⟨S10752x1024, .bf16⟩
  | .hbm, ⟨4, _⟩ => ⟨S2x1x1024, .f32⟩
  | .hbm, ⟨5, _⟩ => ⟨S2x1x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S8192x1024, .f32⟩
  | .hbm, ⟨30, _⟩ => ⟨S10752x1024, .f32⟩
  | .hbm, ⟨31, _⟩ => ⟨S1024x10752, .f32⟩
  | .hbm, ⟨32, _⟩ => ⟨S8192x10752, .f32⟩
  | .hbm, ⟨33, _⟩ => ⟨S8192x10752, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.Attn.lean ====
module

public import Idealize.ShloMosaic.Lib.Pipeline.ValueKit
public import Idealize.ShloMosaic.Lib.Pointwise
public import Idealize.ShloMosaic.Lib.IdealHost
public import Idealize.ShloMosaic.Lib.Claim

@[expose] public section

/-! Scaled attention over the extended reals, for one query row: the rotated, normalised query is real when its data
    are; the base-2 softmax with the scale folded into the query is the base-e softmax of the scaled scores; and a
    weighted sum divided at the end is the sum with divided weights. -/

noncomputable section

namespace Cert.Attn

open Idealize.ShloMosaic

theorem fold_max_eq {n : ℕ} (f : Fin n → EReal) (j₀ : Fin n) (h : ∀ j, f j ≤ f j₀) :
    Finset.univ.fold max (⊥ : EReal) f = f j₀ := by
  apply le_antisymm
  · rw [Finset.fold_max_le]
    exact ⟨bot_le, fun j _ => h j⟩
  · rw [Finset.le_fold_max]
    exact Or.inr ⟨j₀, Finset.mem_univ _, le_refl _⟩

theorem exp2_coe (r : ℝ) : Ideal.exp2 (r : EReal) = ((Real.exp (Real.log 2 * r) : ℝ) : EReal) := by
  show ((Real.rpow 2 r : ℝ) : EReal) = _
  congr 1
  exact Real.rpow_def_of_pos (by norm_num) r

theorem exp_coe (r : ℝ) : Ideal.exp (r : EReal) = ((Real.exp r : ℝ) : EReal) := rfl

theorem sum_coe {n : ℕ} (f : Fin n → ℝ) : ∑ j, ((f j : ℝ) : EReal) = ((∑ j, f j : ℝ) : EReal) :=
  (map_sum (⟨⟨fun x : ℝ => (x : EReal), rfl⟩, EReal.coe_add⟩ : ℝ →+ EReal) f Finset.univ).symm

theorem sum_mul_coe {n : ℕ} (f : Fin n → EReal) {c : ℝ} (hc : 0 ≤ c) : (∑ j, f j) * (c : EReal) = ∑ j, f j * (c : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The base-2 softmax of scores scaled by `κ`, divided after the weighted sum, is the base-e softmax of scores scaled
    by `σ = κ ln 2`, divided before it. -/
theorem softmax_form {n : ℕ} (i₀ : Fin n) (r : Fin n → ℝ) (κ σ : ℝ) (hσ : 0 < σ) (hκ : 0 < κ) (h : Real.log 2 * κ = σ)
    (v : Fin n → EReal) :
    Ideal.div (∑ j, Ideal.exp2 (((κ * r j : ℝ) : EReal) - Finset.univ.fold max (⊥ : EReal) fun i => ((κ * r i : ℝ) : EReal)) * v j)
        (∑ j, Ideal.exp2 (((κ * r j : ℝ) : EReal) - Finset.univ.fold max (⊥ : EReal) fun i => ((κ * r i : ℝ) : EReal)))
      = ∑ j, v j * Ideal.div (Ideal.exp (((r j * σ : ℝ) : EReal) - Finset.univ.fold max (⊥ : EReal) fun i => ((r i * σ : ℝ) : EReal)))
          (∑ l, Ideal.exp (((r l * σ : ℝ) : EReal) - Finset.univ.fold max (⊥ : EReal) fun i => ((r i * σ : ℝ) : EReal))) := by
  obtain ⟨j₀, -, hj₀⟩ := Finset.exists_max_image Finset.univ r ⟨i₀, Finset.mem_univ _⟩
  rw [fold_max_eq (fun i => ((κ * r i : ℝ) : EReal)) j₀ (fun j => by
      have := mul_le_mul_of_nonneg_left (hj₀ j (Finset.mem_univ _)) hκ.le
      exact_mod_cast this),
    fold_max_eq (fun i => ((r i * σ : ℝ) : EReal)) j₀ (fun j => by
      have := mul_le_mul_of_nonneg_right (hj₀ j (Finset.mem_univ _)) hσ.le
      exact_mod_cast this)]
  have e1 : ∀ j, Ideal.exp2 (((κ * r j : ℝ) : EReal) - ((κ * r j₀ : ℝ) : EReal)) = ((Real.exp (r j * σ - r j₀ * σ) : ℝ) : EReal) := fun j => by
    rw [← EReal.coe_sub, exp2_coe, ← h]; congr 2; ring
  have e2 : ∀ j, Ideal.exp (((r j * σ : ℝ) : EReal) - ((r j₀ * σ : ℝ) : EReal)) = ((Real.exp (r j * σ - r j₀ * σ) : ℝ) : EReal) := fun j => by
    rw [← EReal.coe_sub, exp_coe]
  simp only [e1, e2, sum_coe]
  have hl : 0 < ∑ j, Real.exp (r j * σ - r j₀ * σ) := Finset.sum_pos (fun j _ => Real.exp_pos _) ⟨i₀, Finset.mem_univ _⟩
  simp only [Ideal.div_coe hl.ne']
  rw [sum_mul_coe _ (by positivity)]
  refine Finset.sum_congr rfl fun j _ => ?_
  ac_rfl

end Cert.Attn

end
-- ==== Proof.Row.lean ====
module

public import proofs.«01_k».proof.Proof.Attn

@[expose] public section

/-! One row of the attention: the query of one position and one head, normalised, scaled and rotated, against all keys. -/

noncomputable section

namespace Cert.Attn

open Idealize.ShloMosaic

theorem bits_128 : Ideal.ofBits .f32 0x43000000#32 = ((128 : ℝ) : EReal) := by
  simp [Ideal.ofBits, Ideal.ieee]
  rw [← EReal.coe_mul]
  norm_num

theorem bits_eps : Ideal.ofBits .f32 0x358637BD#32 = ((8796093 / 8796093022208 : ℝ) : EReal) := by
  simp [Ideal.ofBits, Ideal.ieee]
  rw [← EReal.coe_mul]
  norm_num

theorem bits_scale : Ideal.ofBits .f32 0x3DB504F3#32 = ((11863283 / 134217728 : ℝ) : EReal) := by
  simp [Ideal.ofBits, Ideal.ieee]
  rw [← EReal.coe_mul]
  norm_num

theorem bits_32 : Ideal.ofBits .f32 0x42000000#32 = ((32 : ℝ) : EReal) := by
  simp [Ideal.ofBits, Ideal.ieee]
  rw [← EReal.coe_mul]
  norm_num

theorem bits_theta : Ideal.ofBits .f32 0x461C4000#32 = ((10000 : ℝ) : EReal) := by
  simp [Ideal.ofBits, Ideal.ieee]
  rw [← EReal.coe_mul]
  norm_num

theorem bits_bot : Ideal.ofBits .f32 0xFF800000#32 = ⊥ := by
  simp [Ideal.ofBits, Ideal.ieee]

/-- The frequency of rotary pair `n`. -/
def freq (n : ℕ) : EReal :=
  Ideal.pow (Ideal.ofBits .f32 0x461C4000#32)
    (Ideal.div (-FloatOps.sitofp (F := Ideal) .f32 (BitVec.ofNat 32 n)) (Ideal.ofBits .f32 0x42000000#32))

/-- The angle at grid position `r` and coordinate `e`: the row turns the first half of a head, the column the second. -/
def ang (r e : ℕ) : EReal :=
  FloatOps.sitofp (F := Ideal) .f32 (BitVec.ofNat 32 (if e < 64 then r / 64 else r % 64)) * freq (e % 32)

theorem ang_real (r e : ℕ) : ∃ x : ℝ, ang r e = (x : EReal) := by
  have h : ∀ b : BitVec 32, FloatOps.sitofp (F := Ideal) .f32 b = ((b.toInt : ℝ) : EReal) := fun _ => rfl
  unfold ang freq
  rw [bits_theta, bits_32, h, h, ← EReal.coe_neg, Ideal.div_coe (by norm_num), ← EReal.coe_mul]
  exact ⟨_ * Real.rpow _ _, rfl⟩

/-- A head's coordinates divided by their root mean square. -/
def unit (X : Fin 128 → EReal) (e : Fin 128) : EReal :=
  X e * Ideal.rsqrt (Ideal.div (∑ x, X x * X x) (Ideal.ofBits .f32 0x43000000#32) + Ideal.ofBits .f32 0x358637BD#32)

theorem unit_real {X : Fin 128 → EReal} (hX : ∀ e, ∃ x : ℝ, X e = (x : EReal)) (e : Fin 128) : ∃ x : ℝ, unit X e = (x : EReal) := by
  choose x hx using hX
  unfold unit
  simp only [hx, ← EReal.coe_mul]
  rw [sum_coe, bits_128, bits_eps, Ideal.div_coe (by norm_num), ← EReal.coe_mul, ← EReal.coe_add]
  have hp : (0 : ℝ) < (∑ j, x j * x j) * (1 / 128) + 8796093 / 8796093022208 :=
    add_pos_of_nonneg_of_pos (mul_nonneg (Finset.sum_nonneg fun j _ => mul_self_nonneg _) (by norm_num)) (by norm_num)
  have hr : ∀ t : ℝ, 0 < t → Ideal.rsqrt ((t : ℝ) : EReal) = (((Real.sqrt t)⁻¹ : ℝ) : EReal) := fun t ht => by
    show (if t < 0 then (⊥ : EReal) else if t = 0 then ⊤ else (((Real.sqrt t)⁻¹ : ℝ) : EReal)) = _
    rw [if_neg ht.le.not_gt, if_neg ht.ne']
  rw [hr _ hp, ← EReal.coe_mul]
  exact ⟨_, rfl⟩

/-- The coordinate `k` places on, around the head. -/
abbrev on (e : Fin 128) (k : ℕ) : Fin 128 := ⟨(e.val + k) % 128, Nat.mod_lt _ (by decide)⟩

/-- The reference's rotated query. -/
def refRow (X G : Fin 128 → EReal) (r : ℕ) (e : Fin 128) : EReal :=
  if e.val / 32 % 2 = 0 then unit X e * G e * Ideal.cos (ang r e) - unit X (on e 32) * G (on e 32) * Ideal.sin (ang r e)
  else unit X (on e 96) * G (on e 96) * Ideal.sin (ang r e) + unit X e * G e * Ideal.cos (ang r e)

/-- The kernel's rotated query: the gain holds the factor `q`, and the rotation is three products with tables. -/
def kerRow (X G : Fin 128 → EReal) (q : EReal) (r : ℕ) (e : Fin 128) : EReal :=
  unit X e * (G e * q) * Ideal.cos (ang r e)
    + unit X (on e 32) * (G (on e 32) * q) * (if e.val / 32 % 2 = 0 then -Ideal.sin (ang r e) else 0)
    + unit X (on e 96) * (G (on e 96) * q) * (if e.val / 32 % 2 = 0 then 0 else Ideal.sin (ang r e))

theorem rows_real {X G : Fin 128 → EReal} (hX : ∀ e, ∃ x : ℝ, X e = (x : EReal)) (hG : ∀ e, ∃ x : ℝ, G e = (x : EReal))
    (κ : ℝ) (r : ℕ) (e : Fin 128) :
    ∃ y : ℝ, refRow X G r e = (y : EReal) ∧ kerRow X G (κ : EReal) r e = ((κ * y : ℝ) : EReal) := by
  choose u hu using unit_real hX
  choose g hg using hG
  obtain ⟨a, ha⟩ := ang_real r e
  have hc : Ideal.cos ((a : ℝ) : EReal) = ((Real.cos a : ℝ) : EReal) := rfl
  have hs : Ideal.sin ((a : ℝ) : EReal) = ((Real.sin a : ℝ) : EReal) := rfl
  unfold refRow kerRow
  simp only [hu, hg, ha, hc, hs]
  by_cases h : e.val / 32 % 2 = 0
  · simp only [if_pos h, mul_zero, add_zero, ← EReal.coe_neg, ← EReal.coe_mul, ← EReal.coe_add, ← EReal.coe_sub]
    exact ⟨_, rfl, congrArg _ (by ring)⟩
  · simp only [if_neg h, mul_zero, add_zero, ← EReal.coe_mul, ← EReal.coe_add]
    exact ⟨_, rfl, congrArg _ (by ring)⟩

/-- One output coordinate of a head: the kernel's form equals the reference's. -/
theorem head_eq {X G : Fin 128 → EReal} {K : Fin 4352 → Fin 128 → EReal} (hX : ∀ e, ∃ x : ℝ, X e = (x : EReal))
    (hG : ∀ e, ∃ x : ℝ, G e = (x : EReal)) (hK : ∀ j e, ∃ x : ℝ, K j e = (x : EReal)) (v : Fin 4352 → EReal) (r : ℕ)
    (q : EReal) (hq : q = (((Real.log 2)⁻¹ * (11863283 / 134217728) : ℝ) : EReal)) (s t : Fin 4352 → EReal)
    (hs : ∀ j, s j = ∑ e, kerRow X G q r e * K j e)
    (ht : ∀ j, t j = (∑ e, K j e * refRow X G r e) * Ideal.ofBits .f32 0x3DB504F3#32) :
    Ideal.div (∑ j, Ideal.exp2 (s j - Finset.univ.fold max (Ideal.ofBits .f32 0xFF800000#32) s) * v j)
        (∑ j, Ideal.exp2 (s j - Finset.univ.fold max (Ideal.ofBits .f32 0xFF800000#32) s))
      = ∑ j, v j * Ideal.div
          (Ideal.exp (t j - max (Ideal.ofBits .f32 0xFF800000#32) (Finset.univ.fold max (Ideal.ofBits .f32 0xFF800000#32) t)))
          (∑ l, Ideal.exp (t l - max (Ideal.ofBits .f32 0xFF800000#32) (Finset.univ.fold max (Ideal.ofBits .f32 0xFF800000#32) t))) := by
  subst hq
  have hl : (0 : ℝ) < Real.log 2 := Real.log_pos (by norm_num)
  choose y hy hy' using rows_real hX hG ((Real.log 2)⁻¹ * (11863283 / 134217728)) r
  choose k hk using hK
  have es : s = fun j => ((((Real.log 2)⁻¹ * (11863283 / 134217728)) * ∑ e, k j e * y e : ℝ) : EReal) := by
    funext j
    rw [hs]
    simp only [hy', hk, ← EReal.coe_mul]
    rw [sum_coe]
    refine congrArg _ ?_
    rw [Finset.mul_sum]
    exact Finset.sum_congr rfl fun e _ => by ring
  have et : t = fun j => (((∑ e, k j e * y e) * (11863283 / 134217728) : ℝ) : EReal) := by
    funext j
    rw [ht, bits_scale]
    simp only [hy, hk, ← EReal.coe_mul]
    rw [sum_coe, ← EReal.coe_mul]
  subst es et
  simp only [bits_bot, max_eq_right (bot_le (a := (_ : EReal)))]
  exact softmax_form (0 : Fin 4352) (fun j => ∑ e, k j e * y e) _ _ (by norm_num) (by positivity)
    (by rw [← mul_assoc, mul_inv_cancel₀ hl.ne', one_mul]) v

end Cert.Attn

end
-- ==== Proof.Finite.lean ====
module
public import proofs.«01_k».proof.Defs
public import proofs.«01_k».proof.Proof.Row
public import Idealize.ShloMosaic.Lib.ReduceAll
@[expose] public section
set_option maxRecDepth 16384

/-! The precondition, read at an entry. -/

noncomputable section

namespace Cert.Finite

open Idealize.ShloMosaic Idealize.SL.Sem

/-- An entry whose absolute value is below infinity is real. -/
theorem real_of_lt (x : EReal) (h : FloatOps.cmpf (F := Ideal) (φ := .f32) .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have h' : max x (-x) < ⊤ := by
    by_contra hn
    have : FloatOps.cmpf (F := Ideal) (φ := .f32) .olt (max x (-x)) ⊤ = 0#1 := by
      show BitVec.ofBool (decide (max x (-x) < ⊤)) = 0#1
      rw [decide_eq_false hn]
      rfl
    rw [this] at h
    exact absurd h (by decide)
  induction x using EReal.rec with
  | bot => simp at h'
  | top => simp at h'
  | coe r => exact ⟨r, rfl⟩

variable [Cert.Pre_finite_qk.Facts]

/-- Queries, keys and gains are real. -/
theorem finite_args (x0 : FVec Ideal Cert.Pre_finite_qk.S8192x10752 .bf16) (x1 x2 : FVec Ideal Cert.Pre_finite_qk.S2x4352x256 .bf16)
    (x3 : FVec Ideal Cert.Pre_finite_qk.S128 .f32) (h : Cert.Pre_finite_qk.fn (F := Ideal) x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have h0 := congrFun h (fun a => a.elim0)
  dsimp only [Cert.Pre_finite_qk.fn] at h0
  have hand : ∀ p q : BitVec 1, p &&& q = 1#1 → p = 1#1 ∧ q = 1#1 := by decide
  obtain ⟨h01, h3⟩ := hand _ _ h0
  obtain ⟨h1, h2⟩ := hand _ _ h01
  have sub : Subsingleton Cert.Pre_finite_qk.S_.Idx := ⟨fun a b => funext fun i => i.elim0⟩
  refine ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end Cert.Finite

end
-- ==== Proof.Head.lean ====
module

public import proofs.«01_k».proof.Proof.Gen.KernelIdeal.Skeleton
public import proofs.«01_k».proof.Proof.Row

@[expose] public section

set_option maxRecDepth 16384

/-! One head of the kernel's body, read at an output coordinate. -/

noncomputable section

namespace Cert.KernelIdeal.Head

open Idealize.ShloMosaic Idealize.ShloMosaic.TcCoe Idealize.SL.Sem
open Cert.KernelIdeal Cert.KernelIdeal.Gen

/-- What the body stores for one head: tables `c a b`, gain `g`, the head's keys, values and raw queries. -/
def head (c a b : FVec Ideal S256x128 .f32) (g : FVec Ideal S1x128 .f32) (k v : FVec Ideal S1x4352x128 .bf16)
    (q : FVec Ideal S256x128 .bf16) : FVec Ideal S256x128 .bf16 :=
  k0_pay1 (k0_pay6 k) (k0_pay7 v) (k0_pay8 c a b g q)

variable (c a b : FVec Ideal S256x128 .f32) (g : FVec Ideal S1x128 .f32) (k v : FVec Ideal S1x4352x128 .bf16)
    (q : FVec Ideal S256x128 .bf16)

theorem piece1 : k0_pay12 (k0_pay7 v) (k0_pay10 (k0_pay2 c) (k0_pay3 a) (k0_pay4 b) (k0_pay5 g) (k0_pay6 k) q)
    (k0_pay11 (k0_pay2 c) (k0_pay3 a) (k0_pay4 b) (k0_pay5 g) (k0_pay6 k) q) = head c a b g k v q := rfl

theorem piece0 : k0_pay9 (k0_pay6 k) (k0_pay7 v) (k0_pay8 c a b g q) = head c a b g k v q := rfl

theorem piece2 : k0_pay13 (k0_pay2 c) (k0_pay3 a) (k0_pay4 b) (k0_pay5 g) (k0_pay6 k) (k0_pay7 v) q = head c a b g k v q := rfl

theorem piece3 : k0_pay14 (k0_pay2 c) (k0_pay3 a) (k0_pay4 b) (k0_pay5 g) (k0_pay6 k) (k0_pay7 v) q = head c a b g k v q := rfl

theorem piece4 : k0_pay17 (k0_pay2 c) (k0_pay3 a) (k0_pay4 b) (k0_pay5 g) (k0_pay15 k) v q = head c a b g k v q := rfl

theorem piece5 : k0_pay20 (k0_pay2 c) (k0_pay3 a) (k0_pay4 b) (k0_pay5 g) (k0_pay15 k) (k0_pay16 v) (k0_pay18 q) (k0_pay19 q)
    (FloatOps.ofBits FTy.f32 1124073472#32) = head c a b g k v q := rfl

theorem piece6 : k0_pay22 (k0_pay2 c) (k0_pay3 a) (k0_pay4 b) (k0_pay15 k) (k0_pay16 v) (k0_pay21 (k0_pay5 g) q)
    = head c a b g k v q := rfl

theorem piece7 : k0_pay1 (k0_pay15 k) (k0_pay16 v) (k0_pay23 (k0_pay2 c) (k0_pay3 a) (k0_pay4 b) (k0_pay5 g) q)
    = head c a b g k v q := rfl

/-- The scaled and rotated query. -/
theorem query_at (p : ℕ) (r : Fin 256) (hc : ∀ e, c (ix2 r e) = Ideal.cos (Cert.Attn.ang p e.val))
    (ha : ∀ e, a (ix2 r e) = if e.val / 32 % 2 = 0 then -Ideal.sin (Cert.Attn.ang p e.val) else 0)
    (hb : ∀ e, b (ix2 r e) = if e.val / 32 % 2 = 0 then 0 else Ideal.sin (Cert.Attn.ang p e.val)) (e : Fin 128) :
    (show FVec Ideal S256x128 .bf16 from k0_pay8 (F := Ideal) c a b g q) (ix2 r e) = Cert.Attn.kerRow (fun e => q (ix2 r e)) (fun e => g (ix2 0 e))
      (Named.named (F := Ideal) κ "qs" (φ := .f32) 0x3E0293EE#32) p e := by
  pointwise [k0_pay8, k0_pay2, k0_pay3, k0_pay4, k0_pay5]
  erw [hc, ha, hb]
  have h32 : (⟨(e.val + 128 - 96) % 128, by omega⟩ : Fin 128) = Cert.Attn.on e 32 := Fin.ext (by show (e.val + 128 - 96) % 128 = (e.val + 32) % 128; omega)
  have h96 : (⟨(e.val + 128 - 32) % 128, by omega⟩ : Fin 128) = Cert.Attn.on e 96 := Fin.ext (by show (e.val + 128 - 32) % 128 = (e.val + 96) % 128; omega)
  rw [h32, h96]
  rfl

/-- A head's output from its scores. -/
theorem head_at (r : Fin 256) (d : Fin 128) (s : Fin 4352 → EReal) (hs : ∀ j, s j = ∑ e, (show FVec Ideal S256x128 .bf16 from k0_pay8 (F := Ideal) c a b g q) (ix2 r e) * k (ix3 0 j e)) :
    head c a b g k v q (ix2 r d)
      = Ideal.div (∑ j, Ideal.exp2 (s j - Finset.univ.fold max (Ideal.ofBits .f32 0xFF800000#32) s) * v (ix3 0 j d))
          (∑ j, Ideal.exp2 (s j - Finset.univ.fold max (Ideal.ofBits .f32 0xFF800000#32) s)) := by
  obtain rfl : s = fun j => ∑ e, (show FVec Ideal S256x128 .bf16 from k0_pay8 (F := Ideal) c a b g q) (ix2 r e) * k (ix3 0 j e) := funext hs
  unfold head
  generalize k0_pay8 (F := Ideal) c a b g q = y
  pointwise [k0_pay1, k0_pay6, k0_pay7]
  rfl

end Cert.KernelIdeal.Head

end
-- ==== Proof.Final.lean ====
module

public import proofs.«01_k».proof.Proof.Gen.KernelIdeal.Value
public import Idealize.ShloMosaic.Lib.Pipeline.ValueKit
public import Idealize.ShloMosaic.Lib.Pointwise
public import Idealize.ShloMosaic.Lib.Claim
public import proofs.«01_k».proof.Proof.Row
public import proofs.«01_k».proof.Proof.Head

@[expose] public section

set_option maxRecDepth 16384

/-! The blocks of the attention kernel, read from its arguments. -/

noncomputable section

namespace Cert.KernelIdeal.Final

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem select_zero (n : ℕ) (hn : n < 2 ^ 32) {α : Type} (x y : α) :
    Scalar.select (IntOp.cmpi CmpIPredicate.eq (BitVec.ofNat 32 n) 0#32) x y = if n = 0 then x else y := by
  have h : (BitVec.ofNat 32 n = 0#32) ↔ n = 0 := by
    constructor
    · intro h
      have := congrArg BitVec.toNat h
      simp at this
      omega
    · rintro rfl
      rfl
  by_cases hz : n = 0
  · rw [if_pos hz, hz]; rfl
  · rw [if_neg hz]
    have hb : ((BitVec.ofNat 32 n) == 0#32) = false := by simpa [h] using hz
    show (if (BitVec.ofBool ((BitVec.ofNat 32 n) == 0#32)) = 1#1 then x else y) = y
    rw [hb]
    rfl

theorem V_cos (c : Dev nD) (r : Fin 4096) (n : Fin 128) :
    (show FVec Ideal S4096x128 .f32 from V m c main_v25) (ix2 r n) = Ideal.cos (Cert.Attn.ang r.val n.val) := by
  entry_read
  pointwise
  rw [select_zero _ (by omega)]
  unfold Cert.Attn.ang Cert.Attn.freq
  have e : (n.val / 64 = 0) = (n.val < 64) := propext (by omega)
  simp only [e]
  split_ifs <;> rfl

theorem V_sa (c : Dev nD) (r : Fin 4096) (n : Fin 128) :
    (show FVec Ideal S4096x128 .f32 from V m c main_v32) (ix2 r n)
      = if n.val / 32 % 2 = 0 then -Ideal.sin (Cert.Attn.ang r.val n.val) else 0 := by
  entry_read
  pointwise
  rw [select_zero _ (by omega), select_zero _ (by omega)]
  unfold Cert.Attn.ang Cert.Attn.freq
  have e : (n.val / 64 = 0) = (n.val < 64) := propext (by omega)
  simp only [e]
  split_ifs <;> rfl

theorem V_sb (c : Dev nD) (r : Fin 4096) (n : Fin 128) :
    (show FVec Ideal S4096x128 .f32 from V m c main_v33) (ix2 r n)
      = if n.val / 32 % 2 = 0 then 0 else Ideal.sin (Cert.Attn.ang r.val n.val) := by
  entry_read
  pointwise
  rw [select_zero _ (by omega), select_zero _ (by omega)]
  unfold Cert.Attn.ang Cert.Attn.freq
  have e : (n.val / 64 = 0) = (n.val < 64) := propext (by omega)
  simp only [e]
  split_ifs <;> rfl

theorem V_gain (c : Dev nD) (n : Fin 128) :
    (show FVec Ideal S1x128 .f32 from V m c main_v34) (ix2 0 n) = m ((c.tc : Thread nD τ).loc main_arg3) (ix1 n) := by
  entry_read
  pointwise

/-- Where a grid point's blocks lie. -/
theorem idx (t : Fin cfg0.N) :
    win0_0.index t = ![t.val, 0] ∧ win0_1.index t = ![t.val % 16, 0] ∧ win0_2.index t = ![t.val % 16, 0]
      ∧ win0_3.index t = ![t.val % 16, 0] ∧ win0_4.index t = ![0, 0] ∧ win0_5.index t = ![t.val / 16, 0, 0]
      ∧ win0_6.index t = ![t.val / 16, 0, 0] ∧ win0_7.index t = ![t.val, 0] := by
  revert t
  decide +kernel

theorem b1_at (c : Dev nD) (t : Fin cfg0.N) (r : Fin 256) (e : Fin 128) :
    (show FVec Ideal S256x128 .f32 from iblk m c 1 t) (ix2 r e)
      = Ideal.cos (Cert.Attn.ang (t.val % 16 * 256 + r.val) e.val) := by
  have ht : t.val < 32 := t.isLt
  rw [← V_cos m c ⟨t.val % 16 * 256 + r.val, by omega⟩ e]
  blk_ext [iblk, (idx t).2.1]

theorem b2_at (c : Dev nD) (t : Fin cfg0.N) (r : Fin 256) (e : Fin 128) :
    (show FVec Ideal S256x128 .f32 from iblk m c 2 t) (ix2 r e)
      = if e.val / 32 % 2 = 0 then -Ideal.sin (Cert.Attn.ang (t.val % 16 * 256 + r.val) e.val) else 0 := by
  have ht : t.val < 32 := t.isLt
  rw [← V_sa m c ⟨t.val % 16 * 256 + r.val, by omega⟩ e]
  blk_ext [iblk, (idx t).2.2.1]

theorem b3_at (c : Dev nD) (t : Fin cfg0.N) (r : Fin 256) (e : Fin 128) :
    (show FVec Ideal S256x128 .f32 from iblk m c 3 t) (ix2 r e)
      = if e.val / 32 % 2 = 0 then 0 else Ideal.sin (Cert.Attn.ang (t.val % 16 * 256 + r.val) e.val) := by
  have ht : t.val < 32 := t.isLt
  rw [← V_sb m c ⟨t.val % 16 * 256 + r.val, by omega⟩ e]
  blk_ext [iblk, (idx t).2.2.2.1]

theorem b4_at (c : Dev nD) (t : Fin cfg0.N) (e : Fin 128) :
    (show FVec Ideal S1x128 .f32 from iblk m c 4 t) (ix2 0 e) = m ((c.tc : Thread nD τ).loc main_arg3) (ix1 e) := by
  rw [← V_gain m c e]
  blk_ext [iblk, (idx t).2.2.2.2.1]

theorem b5_at (c : Dev nD) (t : Fin cfg0.N) (j : Fin 4352) (e : Fin 256) :
    (show FVec Ideal S1x4352x256 .bf16 from iblk m c 5 t) (ix3 0 j e)
      = m ((c.tc : Thread nD τ).loc main_arg1) (ix3 ⟨t.val / 16, by have : t.val < 32 := t.isLt; omega⟩ j e) := by
  blk_ext [iblk, V, (idx t).2.2.2.2.2.1]

theorem b6_at (c : Dev nD) (t : Fin cfg0.N) (j : Fin 4352) (e : Fin 256) :
    (show FVec Ideal S1x4352x256 .bf16 from iblk m c 6 t) (ix3 0 j e)
      = m ((c.tc : Thread nD τ).loc main_arg2) (ix3 ⟨t.val / 16, by have : t.val < 32 := t.isLt; omega⟩ j e) := by
  blk_ext [iblk, V, (idx t).2.2.2.2.2.2.1]

theorem b0_at (c : Dev nD) (t : Fin cfg0.N) (r : Fin 256) (e : Fin 1024) :
    (show FVec Ideal S256x1024 .bf16 from X0_0 m c t) (ix2 r e)
      = m ((c.tc : Thread nD τ).loc main_arg0) (ix2 ⟨t.val * 256 + r.val, by have : t.val < 32 := t.isLt; omega⟩ ⟨e.val, by omega⟩) := by
  show X0_0 m c t (ix2 r e) = _
  unfold X0_0 Pipeline.Window.fill
  rw [dif_pos (moved0_0 t _)]
  blk_ext [iblk, V, (idx t).1]

end Cert.KernelIdeal.Final

end
-- ==== Proof.RefPos.lean ====
module

public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.Attn

@[expose] public section

set_option maxRecDepth 16384

noncomputable section
open Idealize.ShloMosaic Idealize.ShloMosaic.TcCoe Idealize.SL.Sem
open Idealize.ShloMosaic.Pipeline (Dat)

namespace Cert.ReferenceIdeal.At
open Cert.ReferenceIdeal Cert.ReferenceIdeal.Read
/-- The row of grid position `r`. -/
theorem row_at : ∀ r : Fin 4096, (show IVec S4096 32 from val_main_v1 (F := Ideal)) (ix1 r) = BitVec.ofNat 32 (r.val / 64) := by
  intro r
  pointwise [val_main_v1, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_v0, val_main_c]
  revert r
  decide +kernel
/-- The column of grid position `r`. -/
theorem col_at : ∀ r : Fin 4096, (show IVec S4096 32 from val_main_v2 (F := Ideal)) (ix1 r) = BitVec.ofNat 32 (r.val % 64) := by
  intro r
  pointwise [val_main_v2, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_v14, val_main_call1_c, val_main_call1_c_0, val_main_call1_c_1, val_main_call1_c_2, val_main_call1_c_3, val_main_v0, val_main_c_0]
  revert r
  decide +kernel
end Cert.ReferenceIdeal.At
end
-- ==== Proof.RefAt.lean ====
module

public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.Row
public import proofs.«01_k».proof.Proof.RefPos

@[expose] public section

set_option maxRecDepth 16384

noncomputable section
open Idealize.ShloMosaic Idealize.ShloMosaic.TcCoe Idealize.SL.Sem
open Idealize.ShloMosaic.Pipeline (Dat)

namespace Cert.ReferenceIdeal.At
open Cert.ReferenceIdeal Cert.ReferenceIdeal.Read

/-- The cosines along the rows. -/
theorem cos_row (r : Fin 4096) (n : Fin 32) (e : ℕ) (he : e % 32 = n.val) (hp : e < 64) :
    (show FVec Ideal S4096x32 .f32 from val_main_v32 (F := Ideal) ) (ix2 r n) = Ideal.cos (Cert.Attn.ang r.val e) := by
  have hy := row_at r
  revert hy
  unfold val_main_v32 val_main_v31 val_main_v30 val_main_v29 val_main_v28 val_main_v27 val_main_v26
  generalize val_main_v1 (F := Ideal) = y
  intro hy
  pointwise [val_main_v25, val_main_v24, val_main_v23, val_main_v22, val_main_v21, val_main_v20, val_main_cst_3, val_main_cst_4]
  unfold Cert.Attn.ang Cert.Attn.freq
  rw [he, if_pos hp]
  exact congrArg (fun w : BitVec 32 => Ideal.cos (FloatOps.sitofp (F := Ideal) FTy.f32 w * _)) hy

/-- The sines along the rows. -/
theorem sin_row (r : Fin 4096) (n : Fin 32) (e : ℕ) (he : e % 32 = n.val) (hp : e < 64) :
    (show FVec Ideal S4096x32 .f32 from val_main_v34 (F := Ideal) ) (ix2 r n) = Ideal.sin (Cert.Attn.ang r.val e) := by
  have hy := row_at r
  revert hy
  unfold val_main_v34 val_main_v31 val_main_v30 val_main_v29 val_main_v28 val_main_v27 val_main_v26
  generalize val_main_v1 (F := Ideal) = y
  intro hy
  pointwise [val_main_v25, val_main_v24, val_main_v23, val_main_v22, val_main_v21, val_main_v20, val_main_cst_3, val_main_cst_4]
  unfold Cert.Attn.ang Cert.Attn.freq
  rw [he, if_pos hp]
  exact congrArg (fun w : BitVec 32 => Ideal.sin (FloatOps.sitofp (F := Ideal) FTy.f32 w * _)) hy

/-- The cosines along the columns. -/
theorem cos_col (r : Fin 4096) (n : Fin 32) (e : ℕ) (he : e % 32 = n.val) (hp : ¬ e < 64) :
    (show FVec Ideal S4096x32 .f32 from val_main_v66 (F := Ideal) ) (ix2 r n) = Ideal.cos (Cert.Attn.ang r.val e) := by
  have hy := col_at r
  revert hy
  unfold val_main_v66 val_main_v65 val_main_v64 val_main_v63 val_main_v62 val_main_v61 val_main_v60
  generalize val_main_v2 (F := Ideal) = y
  intro hy
  pointwise [val_main_v59, val_main_v58, val_main_v57, val_main_v56, val_main_v55, val_main_v54, val_main_cst_5, val_main_cst_6]
  unfold Cert.Attn.ang Cert.Attn.freq
  rw [he, if_neg hp]
  exact congrArg (fun w : BitVec 32 => Ideal.cos (FloatOps.sitofp (F := Ideal) FTy.f32 w * _)) hy

/-- The sines along the columns. -/
theorem sin_col (r : Fin 4096) (n : Fin 32) (e : ℕ) (he : e % 32 = n.val) (hp : ¬ e < 64) :
    (show FVec Ideal S4096x32 .f32 from val_main_v68 (F := Ideal) ) (ix2 r n) = Ideal.sin (Cert.Attn.ang r.val e) := by
  have hy := col_at r
  revert hy
  unfold val_main_v68 val_main_v65 val_main_v64 val_main_v63 val_main_v62 val_main_v61 val_main_v60
  generalize val_main_v2 (F := Ideal) = y
  intro hy
  pointwise [val_main_v59, val_main_v58, val_main_v57, val_main_v56, val_main_v55, val_main_v54, val_main_cst_5, val_main_cst_6]
  unfold Cert.Attn.ang Cert.Attn.freq
  rw [he, if_neg hp]
  exact congrArg (fun w : BitVec 32 => Ideal.sin (FloatOps.sitofp (F := Ideal) FTy.f32 w * _)) hy

/-- The query head of one position, as the rows' lemmas take it. -/
def qrow (x0 : FVec Ideal S8192x10752 .bf16) (b : Fin 2) (r : Fin 4096) (h : Fin 8) (n : Fin 128) : EReal :=
  x0 (ix2 ⟨b.val * 4096 + r.val, by omega⟩ ⟨h.val * 128 + n.val, by omega⟩)

theorem u_at (x0 : FVec Ideal S8192x10752 .bf16) (x3 : FVec Ideal S128 .f32) (b : Fin 2) (r : Fin 4096) (h : Fin 8) (n : Fin 128) :
    (show FVec Ideal S2x4096x8x128 .f32 from val_main_v18 (F := Ideal) x0 x3) (ix4 b r h n)
      = Cert.Attn.unit (qrow x0 b r h) n * x3 (ix1 n) := by
  unfold Cert.Attn.unit qrow
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_1, val_main_cst_2]

/-- The rotated query. -/
theorem rope_at (x0 : FVec Ideal S8192x10752 .bf16) (x3 : FVec Ideal S128 .f32) (b : Fin 2) (r : Fin 4096) (h : Fin 8) (e : Fin 128) :
    (show FVec Ideal S2x4096x8x128 .f32 from val_main_v87 (F := Ideal) x0 x3) (ix4 b r h e)
      = Cert.Attn.refRow (qrow x0 b r h) (fun n => x3 (ix1 n)) r.val e := by
  have hu := u_at x0 x3 b r h
  have hc := cos_row r
  have hs := sin_row r
  have hc' := cos_col r
  have hs' := sin_col r
  generalize hR : Cert.Attn.refRow (qrow x0 b r h) (fun n => x3 (ix1 n)) r.val e = R
  pointwise [val_main_v87, val_main_v52, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v67, val_main_v53, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v33, val_main_v19]
  have hi : ∀ (a b' : Fin 128), a.val = b'.val → Cert.Attn.unit (qrow x0 b r h) a * x3 (ix1 a) = Cert.Attn.unit (qrow x0 b r h) b' * x3 (ix1 b') :=
    fun a b' hab => by rw [Fin.ext hab]
  have U : ∀ (a b' : Fin 128), a.val = b'.val → val_main_v18 (F := Ideal) x0 x3 (ix4 b r h a) = Cert.Attn.unit (qrow x0 b r h) b' * x3 (ix1 b') :=
    fun a b' hab => (hu a).trans (hi a b' hab)
  split_ifs with h1 h2 _ h3 h2 h3 _
  all_goals first
    | exact absurd rfl ‹_›
    | skip
  · refine Eq.trans ?_ (((if_pos (show e.val / 32 % 2 = 0 by omega)).symm).trans hR)
    exact congrArg₂ (· - ·)
      (congrArg₂ (· * ·) (U ⟨e.val, by omega⟩ e (by show e.val = e.val; omega)) (hc ⟨e.val, by omega⟩ e.val (by show e.val % 32 = e.val; omega) h1))
      (congrArg₂ (· * ·) (U ⟨32 + e.val, by omega⟩ (Cert.Attn.on e 32) (by show 32 + e.val = (e.val + 32) % 128; omega)) (hs ⟨e.val, by omega⟩ e.val (by show e.val % 32 = e.val; omega) h1))
  · refine Eq.trans ?_ (((if_neg (show ¬ e.val / 32 % 2 = 0 by omega)).symm).trans hR)
    exact congrArg₂ (· + ·)
      (congrArg₂ (· * ·) (U ⟨e.val - 32, by omega⟩ (Cert.Attn.on e 96) (by show e.val - 32 = (e.val + 96) % 128; omega)) (hs ⟨e.val - 32, by omega⟩ e.val (by show e.val % 32 = e.val - 32; omega) h1))
      (congrArg₂ (· * ·) (U ⟨32 + (e.val - 32), by omega⟩ e (by show 32 + (e.val - 32) = e.val; omega)) (hc ⟨e.val - 32, by omega⟩ e.val (by show e.val % 32 = e.val - 32; omega) h1))
  · refine Eq.trans ?_ (((if_pos (show e.val / 32 % 2 = 0 by omega)).symm).trans hR)
    exact congrArg₂ (· - ·)
      (congrArg₂ (· * ·) (U ⟨64 + (e.val - 64), by omega⟩ e (by show 64 + (e.val - 64) = e.val; omega)) (hc' ⟨e.val - 64, by omega⟩ e.val (by show e.val % 32 = e.val - 64; omega) h1))
      (congrArg₂ (· * ·) (U ⟨64 + (32 + (e.val - 64)), by omega⟩ (Cert.Attn.on e 32) (by show 64 + (32 + (e.val - 64)) = (e.val + 32) % 128; omega)) (hs' ⟨e.val - 64, by omega⟩ e.val (by show e.val % 32 = e.val - 64; omega) h1))
  · refine Eq.trans ?_ (((if_neg (show ¬ e.val / 32 % 2 = 0 by omega)).symm).trans hR)
    exact congrArg₂ (· + ·)
      (congrArg₂ (· * ·) (U ⟨64 + (e.val - 64 - 32), by omega⟩ (Cert.Attn.on e 96) (by show 64 + (e.val - 64 - 32) = (e.val + 96) % 128; omega)) (hs' ⟨e.val - 64 - 32, by omega⟩ e.val (by show e.val % 32 = e.val - 64 - 32; omega) h1))
      (congrArg₂ (· * ·) (U ⟨64 + (32 + (e.val - 64 - 32)), by omega⟩ e (by show 64 + (32 + (e.val - 64 - 32)) = e.val; omega)) (hc' ⟨e.val - 64 - 32, by omega⟩ e.val (by show e.val % 32 = e.val - 64 - 32; omega) h1))

/-- A score. -/
theorem s_at (x0 : FVec Ideal S8192x10752 .bf16) (x1 : FVec Ideal S2x4352x256 .bf16) (x3 : FVec Ideal S128 .f32)
    (b : Fin 2) (h : Fin 2) (g : Fin 4) (i : Fin 4096) (j : Fin 4352) :
    (show FVec Ideal S2x2x4x4096x4352 .f32 from val_main_v96 (F := Ideal) x0 x1 x3) (ix5 b h g i j)
      = (∑ c : Fin 128, x1 (ix3 b j ⟨h.val * 128 + c.val, by omega⟩)
          * Cert.Attn.refRow (qrow x0 b i ⟨h.val * 4 + g.val, by omega⟩) (fun n => x3 (ix1 n)) i.val c)
        * Ideal.ofBits .f32 0x3DB504F3#32 := by
  have hr := rope_at x0 x3 b i ⟨h.val * 4 + g.val, by omega⟩
  revert hr
  unfold val_main_v96 val_main_v94 val_main_v93 val_main_v92
  generalize val_main_v87 (F := Ideal) x0 x3 = y
  intro hr
  pointwise [val_main_v95, val_main_v89, val_main_v88, val_main_cst_7]
  exact congrArg (· * _) (Finset.sum_congr rfl fun c _ => congrArg (_ * ·) (hr c))

/-- The largest score of a row. -/
theorem m_at (x0 : FVec Ideal S8192x10752 .bf16) (x1 : FVec Ideal S2x4352x256 .bf16) (x3 : FVec Ideal S128 .f32)
    (b : Fin 2) (h : Fin 2) (g : Fin 4) (i : Fin 4096) :
    (show FVec Ideal S2x2x4x4096 .f32 from val_main_v97 (F := Ideal) x0 x1 x3) (ix4 b h g i)
      = Finset.univ.fold max (Ideal.ofBits .f32 0xFF800000#32)
          fun j : Fin 4352 => (show FVec Ideal S2x2x4x4096x4352 .f32 from val_main_v96 (F := Ideal) x0 x1 x3) (ix5 b h g i j) := by
  unfold val_main_v97
  generalize val_main_v96 (F := Ideal) x0 x1 x3 = z
  pointwise [val_main_cst_8]

theorem e_at (x0 : FVec Ideal S8192x10752 .bf16) (x1 : FVec Ideal S2x4352x256 .bf16) (x3 : FVec Ideal S128 .f32)
    (b : Fin 2) (h : Fin 2) (g : Fin 4) (i : Fin 4096) (j : Fin 4352) :
    (show FVec Ideal S2x2x4x4096x4352 .f32 from val_main_v103 (F := Ideal) x0 x1 x3) (ix5 b h g i j)
      = Ideal.exp ((show FVec Ideal S2x2x4x4096x4352 .f32 from val_main_v96 (F := Ideal) x0 x1 x3) (ix5 b h g i j)
          - max (Ideal.ofBits .f32 0xFF800000#32) ((show FVec Ideal S2x2x4x4096 .f32 from val_main_v97 (F := Ideal) x0 x1 x3) (ix4 b h g i))) := by
  show val_main_v103 (F := Ideal) x0 x1 x3 (ix5 b h g i j) = _
  rw [val_main_v103_apply, val_main_v102_apply, val_main_v101_apply, val_main_v100_apply, val_main_v99_apply,
    val_main_v98_apply, val_main_cst_9_apply]
  have hix : idx_main_v100 (idx_main_v101 (ix5 b h g i j)) = ix4 b h g i := by
    funext a
    match a with
    | 0 => rfl
    | 1 => rfl
    | 2 => rfl
    | 3 => rfl
  rw [hix]
  generalize val_main_v97 (F := Ideal) x0 x1 x3 = y
  generalize val_main_v96 (F := Ideal) x0 x1 x3 = z
  rfl

/-- A softmax weight. -/
theorem p_at (x0 : FVec Ideal S8192x10752 .bf16) (x1 : FVec Ideal S2x4352x256 .bf16) (x3 : FVec Ideal S128 .f32)
    (b : Fin 2) (h : Fin 2) (g : Fin 4) (i : Fin 4096) (j : Fin 4352) :
    (show FVec Ideal S2x2x4x4096x4352 .f32 from val_main_v107 (F := Ideal) x0 x1 x3) (ix5 b h g i j)
      = Ideal.div ((show FVec Ideal S2x2x4x4096x4352 .f32 from val_main_v103 (F := Ideal) x0 x1 x3) (ix5 b h g i j))
          (∑ l : Fin 4352, (show FVec Ideal S2x2x4x4096x4352 .f32 from val_main_v103 (F := Ideal) x0 x1 x3) (ix5 b h g i l)) := by
  unfold val_main_v107 val_main_v106 val_main_v105 val_main_v104
  generalize val_main_v103 (F := Ideal) x0 x1 x3 = z
  pointwise [val_main_cst_10]

theorem o_at (x0 : FVec Ideal S8192x10752 .bf16) (x1 x2 : FVec Ideal S2x4352x256 .bf16) (x3 : FVec Ideal S128 .f32)
    (r : Fin 8192) (d : Fin 1024) (b : Fin 2) (i : Fin 4096) (h : Fin 2) (g : Fin 4) (e : Fin 128)
    (hr : r.val = b.val * 4096 + i.val) (hd : d.val = (h.val * 4 + g.val) * 128 + e.val) :
    (show FVec Ideal S8192x1024 .bf16 from val_main_v111 (F := Ideal) x0 x1 x2 x3) (ix2 r d)
      = ∑ j : Fin 4352, x2 (ix3 b j ⟨h.val * 128 + e.val, by omega⟩)
          * (show FVec Ideal S2x2x4x4096x4352 .f32 from val_main_v107 (F := Ideal) x0 x1 x3) (ix5 b h g i j) := by
  unfold val_main_v111 val_main_v110 val_main_v109 val_main_v108
  generalize val_main_v107 (F := Ideal) x0 x1 x3 = z
  have hb : (⟨r.val / 4096, by omega⟩ : Fin 2) = b := Fin.ext (by show r.val / 4096 = _; omega)
  have hi : (⟨r.val % 4096, by omega⟩ : Fin 4096) = i := Fin.ext (by show r.val % 4096 = _; omega)
  have hh : (⟨d.val / 512, by omega⟩ : Fin 2) = h := Fin.ext (by show d.val / 512 = _; omega)
  have hg : (⟨d.val / 128 % 4, by omega⟩ : Fin 4) = g := Fin.ext (by show d.val / 128 % 4 = _; omega)
  have hq : (⟨d.val / 512 * 128 + d.val % 128, by omega⟩ : Fin 256) = ⟨h.val * 128 + e.val, by omega⟩ :=
    Fin.ext (by show d.val / 512 * 128 + d.val % 128 = h.val * 128 + e.val; omega)
  pointwise [val_main_v91, val_main_v90]
  simp only [hb, hi, hh, hg, hq]

/-- The reference's result at a row and a column, from its scores. -/
theorem ref_at (x0 : FVec Ideal S8192x10752 .bf16) (x1 x2 : FVec Ideal S2x4352x256 .bf16) (x3 : FVec Ideal S128 .f32)
    (r : Fin 8192) (d : Fin 1024) (b : Fin 2) (i : Fin 4096) (h : Fin 2) (g : Fin 4) (e : Fin 128)
    (hr : r.val = b.val * 4096 + i.val) (hd : d.val = (h.val * 4 + g.val) * 128 + e.val) (t : Fin 4352 → EReal)
    (ht : ∀ j, (show FVec Ideal S2x2x4x4096x4352 .f32 from val_main_v96 (F := Ideal) x0 x1 x3) (ix5 b h g i j) = t j) :
    (show FVec Ideal S8192x1024 .bf16 from val_main_v111 (F := Ideal) x0 x1 x2 x3) (ix2 r d)
      = ∑ j : Fin 4352, x2 (ix3 b j ⟨h.val * 128 + e.val, by omega⟩)
          * Ideal.div
            (Ideal.exp (t j - max (Ideal.ofBits .f32 0xFF800000#32) (Finset.univ.fold max (Ideal.ofBits .f32 0xFF800000#32) t)))
            (∑ l, Ideal.exp (t l - max (Ideal.ofBits .f32 0xFF800000#32) (Finset.univ.fold max (Ideal.ofBits .f32 0xFF800000#32) t))) := by
  rw [o_at x0 x1 x2 x3 r d b i h g e hr hd]
  have hm := (m_at x0 x1 x3 b h g i).trans (congrArg (Finset.univ.fold max (Ideal.ofBits .f32 0xFF800000#32)) (funext ht))
  have he : ∀ j, (show FVec Ideal S2x2x4x4096x4352 .f32 from val_main_v103 (F := Ideal) x0 x1 x3) (ix5 b h g i j)
      = Ideal.exp (t j - max (Ideal.ofBits .f32 0xFF800000#32) (Finset.univ.fold max (Ideal.ofBits .f32 0xFF800000#32) t)) :=
    fun j => (e_at x0 x1 x3 b h g i j).trans (congrArg₂ (fun p q => Ideal.exp (p - max (Ideal.ofBits .f32 0xFF800000#32) q)) (ht j) hm)
  refine Finset.sum_congr rfl fun j _ => congrArg (_ * ·) ((p_at x0 x1 x3 b h g i j).trans ?_)
  exact congrArg₂ Ideal.div (he j) (Finset.sum_congr rfl fun l _ => he l)

end Cert.ReferenceIdeal.At
end
-- ==== Proof.Result.lean ====
module

public import proofs.«01_k».proof.Proof.Final
public import proofs.«01_k».proof.Proof.RefAt

@[expose] public section

set_option maxRecDepth 16384

/-! The attention kernel's result is the reference's. -/

noncomputable section

namespace Cert.KernelIdeal.Final

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The arguments. -/
abbrev A0 (c : Dev nD) : FVec Ideal S8192x10752 .bf16 := m ((c.tc : Thread nD τ).loc main_arg0)
abbrev A1 (c : Dev nD) : FVec Ideal S2x4352x256 .bf16 := m ((c.tc : Thread nD τ).loc main_arg1)
abbrev A2 (c : Dev nD) : FVec Ideal S2x4352x256 .bf16 := m ((c.tc : Thread nD τ).loc main_arg2)
abbrev A3 (c : Dev nD) : FVec Ideal S128 .f32 := m ((c.tc : Thread nD τ).loc main_arg3)

/-- One head of one block of queries, at one coordinate. -/
theorem piece_at (c : Dev nD) (h0 : ∀ i, ∃ x : ℝ, A0 m c i = (x : EReal)) (h1 : ∀ i, ∃ x : ℝ, A1 m c i = (x : EReal))
    (h3 : ∀ i, ∃ x : ℝ, A3 m c i = (x : EReal)) (t : Fin cfg0.N) (b : Fin 2) (hb : b.val = t.val / 16) (h : Fin 2) (g : Fin 4)
    (k v : FVec Ideal S1x4352x128 .bf16) (q : FVec Ideal S256x128 .bf16)
    (hk : ∀ j (e : Fin 128), k (ix3 0 j e) = A1 m c (ix3 b j ⟨h.val * 128 + e.val, by omega⟩))
    (hv : ∀ j (e : Fin 128), v (ix3 0 j e) = A2 m c (ix3 b j ⟨h.val * 128 + e.val, by omega⟩))
    (hq : ∀ (r : Fin 256) (e : Fin 128), q (ix2 r e) = A0 m c (ix2 ⟨t.val * 256 + r.val, by have : t.val < 32 := t.isLt; omega⟩
      ⟨(h.val * 4 + g.val) * 128 + e.val, by omega⟩))
    (r : Fin 256) (d : Fin 128) (R : Fin 8192) (D : Fin 1024) (hR : R.val = t.val * 256 + r.val)
    (hD : D.val = (h.val * 4 + g.val) * 128 + d.val) :
    Head.head (iblk m c 1 t) (iblk m c 2 t) (iblk m c 3 t) (iblk m c 4 t) k v q (ix2 r d)
      = (show FVec Ideal S8192x1024 .bf16 from
          Cert.ReferenceIdeal.Read.val_main_v111 (F := Ideal) (A0 m c) (A1 m c) (A2 m c) (A3 m c)) (ix2 R D) := by
  have ht : t.val < 32 := t.isLt
  have hq' : (fun e => q (ix2 r e)) = Cert.ReferenceIdeal.At.qrow (A0 m c) b ⟨t.val % 16 * 256 + r.val, by omega⟩ ⟨h.val * 4 + g.val, by omega⟩ := by
    funext e
    rw [hq]
    exact congrArg (A0 m c) (congrArg₂ ix2 (Fin.ext (by show t.val * 256 + r.val = b.val * 4096 + (t.val % 16 * 256 + r.val); omega)) rfl)
  have hg' : (fun e => (show FVec Ideal S1x128 .f32 from iblk m c 4 t) (ix2 0 e)) = fun n => A3 m c (ix1 n) := funext (b4_at m c t)
  rw [Head.head_at _ _ _ _ _ _ _ r d _ (fun _ => rfl)]
  rw [Cert.ReferenceIdeal.At.ref_at (A0 m c) (A1 m c) (A2 m c) (A3 m c) R D b ⟨t.val % 16 * 256 + r.val, by omega⟩ h g d
    (by show R.val = b.val * 4096 + (t.val % 16 * 256 + r.val); omega) hD _ (fun _ => rfl)]
  have hn : Named.named (F := Ideal) κ "qs" (φ := .f32) 0x3E0293EE#32 = (((Real.log 2)⁻¹ * (11863283 / 134217728) : ℝ) : EReal) :=
    IdealRules.named_const.ideal_named_scalar _ _ _ _ rfl
  simp only [hv]
  exact Cert.Attn.head_eq (X := fun e => q (ix2 r e)) (G := fun n => A3 m c (ix1 n))
    (K := fun j e => A1 m c (ix3 b j ⟨h.val * 128 + e.val, by omega⟩))
    (fun e => by rw [hq]; exact h0 _) (fun e => h3 _) (fun j e => h1 _) _ (t.val % 16 * 256 + r.val) _ hn _ _
    (fun j => Finset.sum_congr rfl fun e _ => congrArg₂ (· * ·)
      ((Head.query_at _ _ _ _ _ (t.val % 16 * 256 + r.val) r (b1_at m c t r) (b2_at m c t r) (b3_at m c t r) e).trans (by rw [hg'])) (hk j e))
    (fun j => (Cert.ReferenceIdeal.At.s_at (A0 m c) (A1 m c) (A3 m c) b h g ⟨t.val % 16 * 256 + r.val, by omega⟩ j).trans (by rw [hq']))

/-- The result array. -/
theorem final (c : Dev nD) (h0 : ∀ i, ∃ x : ℝ, A0 m c i = (x : EReal)) (h1 : ∀ i, ∃ x : ℝ, A1 m c i = (x : EReal))
    (h3 : ∀ i, ∃ x : ℝ, A3 m c i = (x : EReal)) :
    (dats m 0 c).arrAt 7 (cfgs 0).N
      = Cert.ReferenceIdeal.Read.val_main_v111 (F := Ideal) (A0 m c) (A1 m c) (A2 m c) (A3 m c) := by
  refine (dats m 0 c).arrAt_eq_of_covers 7 _ (by decide +kernel) fun t _ y => ?_
  blk_simp
  rw [after0_7]
  unfold outsAt0
  frame_out
  have ht : t.val < 32 := t.isLt
  have hE : ((View.whole main_v35).slice (win0_7.rect t)).emb y
      = ix2 (⟨t.val * 256 + (y 0).val, by have : (y 0).val < 256 := (y 0).isLt; omega⟩ : Fin 8192) (⟨(y 1).val, (y 1).isLt⟩ : Fin 1024) := by
    blk_ext [(idx t).2.2.2.2.2.2.2]
  rw [hE]
  canon_tiles x hx
  case piece7 =>
    rw [show x = ix2 (x 0) (x 1) from eq_ix2 x]
    refine (congrFun (Head.piece0 ..) _).trans (piece_at m c h0 h1 h3 t ⟨t.val / 16, by omega⟩ rfl 0 0 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 0 + (x 1).val
      omega
  case piece6 =>
    rw [show x = ix2 (x 0) (x 1) from eq_ix2 x]
    refine (congrFun (Head.piece1 ..) _).trans (piece_at m c h0 h1 h3 t ⟨t.val / 16, by omega⟩ rfl 0 1 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 128 + (x 1).val
      omega
  case piece5 =>
    rw [show x = ix2 (x 0) (x 1) from eq_ix2 x]
    refine (congrFun (Head.piece2 ..) _).trans (piece_at m c h0 h1 h3 t ⟨t.val / 16, by omega⟩ rfl 0 2 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 256 + (x 1).val
      omega
  case piece4 =>
    rw [show x = ix2 (x 0) (x 1) from eq_ix2 x]
    refine (congrFun (Head.piece3 ..) _).trans (piece_at m c h0 h1 h3 t ⟨t.val / 16, by omega⟩ rfl 0 3 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 384 + (x 1).val
      omega
  case piece3 =>
    rw [show x = ix2 (x 0) (x 1) from eq_ix2 x]
    refine (congrFun (Head.piece4 ..) _).trans (piece_at m c h0 h1 h3 t ⟨t.val / 16, by omega⟩ rfl 1 0 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 512 + (x 1).val
      omega
  case piece2 =>
    rw [show x = ix2 (x 0) (x 1) from eq_ix2 x]
    refine (congrFun (Head.piece5 ..) _).trans (piece_at m c h0 h1 h3 t ⟨t.val / 16, by omega⟩ rfl 1 1 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 640 + (x 1).val
      omega
  case piece1 =>
    rw [show x = ix2 (x 0) (x 1) from eq_ix2 x]
    refine (congrFun (Head.piece6 ..) _).trans (piece_at m c h0 h1 h3 t ⟨t.val / 16, by omega⟩ rfl 1 2 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 768 + (x 1).val
      omega
  case piece0 =>
    rw [show x = ix2 (x 0) (x 1) from eq_ix2 x]
    refine (congrFun (Head.piece7 ..) _).trans (piece_at m c h0 h1 h3 t ⟨t.val / 16, by omega⟩ rfl 1 3 _ _ _ (fun j e => ?_) (fun j e => ?_) (fun r e => ?_) _ _ _ _ ?_ ?_)
    · pointwise
      exact (b5_at m c t j _).trans (congrArg _ (congrArg (ix3 _ j) (Fin.ext (by first | rfl | (dsimp only; omega) | (simp; omega)))))
    · pointwise
      exact (b6_at m c t j _).trans (congrArg _ (congrArg (ix3 _ j) (Fin.ext (by first | rfl | (dsimp only; omega) | (simp; omega)))))
    · pointwise
      exact (b0_at m c t r _).trans (congrArg _ (congrArg (ix2 _) (Fin.ext (by first | rfl | (dsimp only; omega) | (simp; omega)))))
    · show t.val * 256 + (y 0).val = t.val * 256 + (x 0).val
      omega
    · show (y 1).val = 896 + (x 1).val
      omega

end Cert.KernelIdeal.Final

end
-- ==== Proof.MoeRun.lean ====
/- The run of the routed experts' kernel, for every content of its two tables (the expert of each tile of
   tokens, and the number of tiles in use) that keeps the picked expert's weights inside their arrays.
   The body has two courses, told apart by one comparison of the grid point with the second table's word:
   a tile in use gets its expert's gated products, a tile past the end gets zeros. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeIdeal.Own

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tables -/

/-- A core's arrays as the pipeline meets them: as launched, no host operation coming first. -/
abbrev V (c : Dev nD) (b : Ref sig .tc) : Buf (Elt F) ((c : Thread nD τ).loc b) := m ((c : Thread nD τ).loc b)

theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- What the tables hold. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The picked expert's blocks lie inside the weight arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S50 .i32 := Memref.whole main_arg1
abbrev tbM1 : Memref sig .tc .smem S1 .i32 := Memref.whole main_arg2

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) :
    (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The second table's one word: the number of tiles in use. -/
def nv : BitVec 32 := (tbl m).atD 1 ![0]

/-- Whether grid point `i`'s tile is in use, as the body reads it off the table's word `T`. -/
abbrev word (T : TbBuf (F := F) (0 : Dev nD) tbM1) : BitVec 32 :=
  View.readAt (Elt F) tbM1.view (Rect.unit (s := S1) ![0] S1.size inb_S1_S1_0).toLoadRect T (Shape.Idx.first (numel1_S1.symm ▸ Nat.one_pos))

/-- The two branches' conditions are opposite. -/
theorem cond2_iff (i : grid0.Coords) (v : BitVec 32) : k0_cond2 i v = 1#1 ↔ ¬k0_cond1 i v = 1#1 := by
  simp only [k0_cond1, k0_cond2]
  generalize BitVec.ofNat 32 (i 0).val = a
  simp [Scalar.cmpi, Scalar.extui]
  by_cases h : a.toInt < v.toInt
  · simp [IntOp.cmpi, BitVec.slt, BitVec.sle, h, show ¬v.toInt ≤ a.toInt by omega]
  · simp [IntOp.cmpi, BitVec.slt, BitVec.sle, h, show v.toInt ≤ a.toInt by omega]

/-! ## The windows' blocks -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem held0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .vmem S384x1024 .bf16 := spec0_0.stage ((cfgM m hO).slots t 0)
abbrev ms1 (hO : Ok m) (t : Fin (cfgM m hO).N) : Memref sig .tc .vmem S1x1024x2816 .bf16 := spec0_1.stage ((cfgM m hO).slots t 1)
abbrev ms2 (hO : Ok m) (t : Fin (cfgM m hO).N) : Memref sig .tc .vmem S1x1024x2816 .bf16 := spec0_2.stage ((cfgM m hO).slots t 2)
abbrev ms3 (hO : Ok m) (t : Fin (cfgM m hO).N) : Memref sig .tc .vmem S1x2816x1024 .bf16 := spec0_3.stage ((cfgM m hO).slots t 3)
abbrev ms4 (hO : Ok m) (t : Fin (cfgM m hO).N) : Memref sig .tc .vmem S384x1024 .bf16 := spec0_4.stage ((cfgM m hO).slots t 4)

/-! ## The body's two courses -/

/-- A weight block's first 1536 hidden columns, and its last 1280. -/
abbrev lo (x : Vec F S1x1024x2816 .bf16) : Vec F S1x1024x1536 .bf16 :=
  View.ld x (Rect.unit (s := S1x1024x2816) ![0, 0, 0] S1x1024x1536.size inb_S1x1024x2816_S1x1024x1536_0_0_0)
abbrev hi (x : Vec F S1x1024x2816 .bf16) : Vec F S1x1024x1280 .bf16 :=
  View.ld x (Rect.unit (s := S1x1024x2816) ![0, 0, 1536] S1x1024x1280.size inb_S1x1024x2816_S1x1024x1280_0_0_1536)
abbrev loR (x : Vec F S1x2816x1024 .bf16) : Vec F S1x1536x1024 .bf16 :=
  View.ld x (Rect.unit (s := S1x2816x1024) ![0, 0, 0] S1x1536x1024.size inb_S1x2816x1024_S1x1536x1024_0_0_0)
abbrev hiR (x : Vec F S1x2816x1024 .bf16) : Vec F S1x1280x1024 .bf16 :=
  View.ld x (Rect.unit (s := S1x2816x1024) ![0, 1536, 0] S1x1280x1024.size inb_S1x2816x1024_S1x1280x1024_0_1536_0)

/-- What a tile in use gets. -/
def outA (x0 : Vec F S384x1024 .bf16) (x1 x2 : Vec F S1x1024x2816 .bf16) (x3 : Vec F S1x2816x1024 .bf16) : Vec F S384x1024 .bf16 :=
  k0_pay1 x0 (k0_pay3 x0 (lo x1) (lo x2) (loR x3)) (k0_pay4 x0 (hi x1)) (k0_pay5 (hi x2)) (hiR x3)

set_option maxHeartbeats 1600000 in
/-- A tile in use: the block ends as `outA` of the tokens and the weights. -/
theorem runA (c : Dev nD) (i : grid0.Coords) (arg3 : Memref sig .tc .vmem S384x1024 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S384x1024 .bf16) (harg7 : arg7.IsWhole)
    (x0 : Vec F S384x1024 .bf16) (x1 : Vec F S1x1024x2816 .bf16) (x2 : Vec F S1x1024x2816 .bf16) (x3 : Vec F S1x2816x1024 .bf16) (T0 : TbBuf (F := F) c tbM0) (T1 : TbBuf (F := F) c tbM1)
    (h1 : k0_cond1 i (word T1) = 1#1) (h2 : ¬k0_cond2 i (word T1) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 T0 ∗ tbPt c tbM1 T1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outA x0 x1 x2 x3) ∗ tbPt c tbM0 T0 ∗ tbPt c tbM1 T1) -∗ K ⟨⟩))
          ⊢ wp frame (wpE (defs₀ (F := F)) Variants.none c none) E (cc0_moe_ffn i tbM0 (Memref.isWhole_whole _) tbM1 (Memref.isWhole_whole _) arg3 harg3 arg4 harg4 arg5 harg5 arg6 harg6 arg7 harg7) K := by
  intro E K
  simp only [cc0_moe_ffn_eq_skeleton]; unfold cc0_moe_ffn_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  have hT0 : tbM0.IsWhole := Memref.isWhole_whole _
  have hT1 : tbM1.IsWhole := Memref.isWhole_whole _
  sl_exec! (disch := first | (guard_target = k0_cond1 _ _ = _; exact h1) | (guard_target = ¬(k0_cond2 _ _ = _); exact h2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [View.read_writes_eq_canon _ _ _ (fun y => View.cover_of_tiledL _ S384x1024.size (by sl_kernel_rfl) y)]
    frame_out
    rfl
  isplitl [HT0]; · iexact HT0
  iexact HT1

set_option maxHeartbeats 1600000 in
/-- A tile past the end: the block ends as zeros. -/
theorem runB (c : Dev nD) (i : grid0.Coords) (arg3 : Memref sig .tc .vmem S384x1024 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S384x1024 .bf16) (harg7 : arg7.IsWhole)
    (x0 : Vec F S384x1024 .bf16) (x1 : Vec F S1x1024x2816 .bf16) (x2 : Vec F S1x1024x2816 .bf16) (x3 : Vec F S1x2816x1024 .bf16) (T0 : TbBuf (F := F) c tbM0) (T1 : TbBuf (F := F) c tbM1)
    (h1 : ¬k0_cond1 i (word T1) = 1#1) (h2 : k0_cond2 i (word T1) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 T0 ∗ tbPt c tbM1 T1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 (F := F)) ∗ tbPt c tbM0 T0 ∗ tbPt c tbM1 T1) -∗ K ⟨⟩))
          ⊢ wp frame (wpE (defs₀ (F := F)) Variants.none c none) E (cc0_moe_ffn i tbM0 (Memref.isWhole_whole _) tbM1 (Memref.isWhole_whole _) arg3 harg3 arg4 harg4 arg5 harg5 arg6 harg6 arg7 harg7) K := by
  intro E K
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  have hT0 : tbM0.IsWhole := Memref.isWhole_whole _
  have hT1 : tbM1.IsWhole := Memref.isWhole_whole _
  sl_exec! (disch := first | (guard_target = ¬(k0_cond1 _ _ = _); exact h1) | (guard_target = k0_cond2 _ _ = _; exact h2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [View.read_writes_eq_canon _ _ _ (fun y => View.cover_of_tiledL _ S384x1024.size (by sl_kernel_rfl) y)]
    frame_out
  isplitl [HT0]; · iexact HT0
  iexact HT1

/-! ## The pipeline's data -/

/-- What point `t`'s block of the result ends as. -/
def outAt (hO : Ok m) (c : Dev nD) (t : Fin (cfgM m hO).N) : Vec F S384x1024 .bf16 :=
  if k0_cond1 (grid0.coords t) (word (tbl m 1)) = 1#1 then
    outA (iblk m hO c 0 t) (iblk m hO c 1 t) (iblk m hO c 2 t) (iblk m hO c 3 t)
  else k0_pay2 (F := F)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl

theorem before0 (hO : Ok m) (c : Dev nD) (t : Fin (cfgM m hO).N) (d) : (dats m hO 0 c).before 0 t d = iblk m hO c 0 t :=
  held0 m hO (dats m hO 0 c) (A_eq m hO c 0) (after0 m hO c) t d
theorem before1 (hO : Ok m) (c : Dev nD) (t : Fin (cfgM m hO).N) (d) : (dats m hO 0 c).before 1 t d = iblk m hO c 1 t :=
  held1 m hO (dats m hO 0 c) (A_eq m hO c 1) (after1 m hO c) t d
theorem before2 (hO : Ok m) (c : Dev nD) (t : Fin (cfgM m hO).N) (d) : (dats m hO 0 c).before 2 t d = iblk m hO c 2 t :=
  held2 m hO (dats m hO 0 c) (A_eq m hO c 2) (after2 m hO c) t d
theorem before3 (hO : Ok m) (c : Dev nD) (t : Fin (cfgM m hO).N) (d) : (dats m hO 0 c).before 3 t d = iblk m hO c 3 t :=
  held3 m hO (dats m hO 0 c) (A_eq m hO c 3) (after3 m hO c) t d

/-! ## The body at a grid point -/

/-- The body as the pipeline calls it at point `t`. -/
abbrev bodyAt (hO : Ok m) (t : Fin (cfgM m hO).N) : Prog (TpuEff nD τ sig (Elt F) Λ₀ .tc) PUnit :=
  cc0_moe_ffn (grid0.coords t) tbM0 (Memref.isWhole_whole _) tbM1 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, PhiT_eq]
  by_cases h1 : k0_cond1 (grid0.coords t) (word (tbl m 1)) = 1#1
  · have h2 : ¬k0_cond2 (grid0.coords t) (word (tbl m 1)) = 1#1 := fun h => (cond2_iff _ _).mp h h1
    rw [show outAt m hO c t = outA (iblk m hO c 0 t) (iblk m hO c 1 t) (iblk m hO c 2 t) (iblk m hO c 3 t) from if_pos h1]
    iintro ⟨⟨HΦ, ⟨HT0, HT1⟩⟩, Ho, ⟨%d0, H0⟩, ⟨%d1, H1⟩, ⟨%d2, H2⟩, ⟨%d3, H3⟩, ⟨%d4, H4⟩⟩
    iapply ((runA c (grid0.coords t) _ _ _ _ _ _ _ _ _ _ (iblk m hO c 0 t) (iblk m hO c 1 t) (iblk m hO c 2 t) (iblk m hO c 3 t) (tbl m 0) (tbl m 1) h1 h2) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have h2 : k0_cond2 (grid0.coords t) (word (tbl m 1)) = 1#1 := (cond2_iff _ _).mpr h1
    rw [show outAt m hO c t = k0_pay2 (F := F) from if_neg h1]
    iintro ⟨⟨HΦ, ⟨HT0, HT1⟩⟩, Ho, ⟨%d0, H0⟩, ⟨%d1, H1⟩, ⟨%d2, H2⟩, ⟨%d3, H3⟩, ⟨%d4, H4⟩⟩
    iapply ((runB c (grid0.coords t) _ _ _ _ _ _ _ _ _ _ (iblk m hO c 0 t) (iblk m hO c 1 t) (iblk m hO c 2 t) (iblk m hO c 3 t) (tbl m 0) (tbl m 1) h1 h2) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block is stored at every point, by one course or the other. -/
theorem busy (hO : Ok m) (i : grid0.Coords) : (cfgM m hO).idle 4 i = false := by
  show (!(k0_cond1 i ((tbl m).atD 1 ![0]) == 1#1) && !(k0_cond2 i ((tbl m).atD 1 ![0]) == 1#1)) = false
  by_cases h : k0_cond1 i ((tbl m).atD 1 ![0]) = 1#1
  · simp [h]
  · simp [h, (cond2_iff i _).mpr h]

theorem body_obligation (hO : Ok m) (c : Dev nD) : BodyObligation (dats (F := F) m hO 0 c) (defs₀ (F := F)) Variants.none () Set.univ := fun t => by
  rw [bigSep_W0, bigSep_W0, defs₀_row m hO, busy m hO]
  exact triple_restated (sound_body m hO c t) rfl .rfl fun _ => .rfl

/-! ## The run -/

set_option backward.isDefEq.respectTransparency.types false in
/-- Every execution ends, with every array as the pipeline's data say and every counter at zero. -/
theorem run_main (hO : Ok m) : θ_run defs (onTc (τ := τ) (main (F := F))) (s₀ m ρ) (fun r =>
    (Pipeline.FramePost (Pipeline.pin pcfgs fun _ => adm m hO) (dats m hO) (0 : Fin 1) (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The arguments end as they were, and the result as the blocks left in it. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 4,
      ((h.1 c).1 0).trans ((Dat.arrAt_in _ 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans ((Dat.arrAt_in _ 1 rfl _).trans (A_eq m hO c 1)),
      ((h.1 c).1 2).trans ((Dat.arrAt_in _ 2 rfl _).trans (A_eq m hO c 2)),
      ((h.1 c).1 3).trans ((Dat.arrAt_in _ 3 rfl _).trans (A_eq m hO c 3))⟩, h.2⟩) (run_main m ρ hO)

/-- The frame claim's statement. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).2, h.2⟩) (run m ρ hO)

end Cert.MoeIdeal.Own

end
-- ==== Proof.MoeAt.lean ====
/- One tile of the routed experts' kernel, read at an output coordinate. -/
module

public import proofs.«01_k».proof.Proof.MoeRun
public import Idealize.ShloMosaic.Lib.Pointwise
public import Idealize.ShloMosaic.PureOps.Ideal.Laws

@[expose] public section

set_option maxRecDepth 16384

noncomputable section

namespace Cert.Experts

open Idealize.ShloMosaic

/-- The gated unit of one hidden coordinate: `silu a * b`. -/
def act (a b : EReal) : EReal :=
  a * Ideal.div 1 (1 + Ideal.exp (-a)) * b

/-- One expert's output coordinate from a token's row and the expert's weights. -/
def expert (x : Fin 1024 → EReal) (u w : Fin 1024 → Fin 2816 → EReal) (p : Fin 2816 → EReal) : EReal :=
  ∑ f, act (∑ d, x d * u d f) (∑ d, x d * w d f) * p f

theorem bits_zero : Ideal.ofBits .f32 0x00000000#32 = 0 := by simp [Ideal.ofBits, Ideal.ieee]
/-- The hidden coordinates in two runs. -/
theorem expert_split (x : Fin 1024 → EReal) (u w : Fin 1024 → Fin 2816 → EReal) (p : Fin 2816 → EReal) :
    expert x u w p
      = (∑ f : Fin 1536, act (∑ d, x d * u d ⟨f.val, by omega⟩) (∑ d, x d * w d ⟨f.val, by omega⟩) * p ⟨f.val, by omega⟩)
        + ∑ f : Fin 1280, act (∑ d, x d * u d ⟨1536 + f.val, by omega⟩) (∑ d, x d * w d ⟨1536 + f.val, by omega⟩) * p ⟨1536 + f.val, by omega⟩ :=
  Fin.sum_univ_add (a := 1536) (b := 1280) fun f => act (∑ d, x d * u d f) (∑ d, x d * w d f) * p f

end Cert.Experts

namespace Cert.MoeIdeal.Own

open Idealize.ShloMosaic Idealize.ShloMosaic.TcCoe Idealize.SL.Sem
open Cert.MoeIdeal Cert.MoeIdeal.Gen Cert.Experts

theorem first_at (v8 : FVec Ideal S384x1024 .bf16) (v9 v20 : FVec Ideal S1x1024x1536 .bf16) (v25 : FVec Ideal S1x1536x1024 .bf16) (r : Fin 384) (j : Fin 1024) :
    (k0_pay3 (F := Ideal) v8 v9 v20 v25 : FVec Ideal S384x1024 .f32) (ix2 r j)
      = ∑ f : Fin 1536, act (∑ d : Fin 1024, v8 (ix2 r d) * v9 (ix3 0 d f)) (∑ d : Fin 1024, v8 (ix2 r d) * v20 (ix3 0 d f)) * v25 (ix3 0 f j) := by
  pointwise [k0_pay3]
  all_goals simp only [act, bits_zero, zero_sub]

theorem second_at (v8 : FVec Ideal S384x1024 .bf16) (v27 : FVec Ideal S384x1024 .f32) (v28 v39 : FVec Ideal S1x1024x1280 .bf16) (v44 : FVec Ideal S1x1280x1024 .bf16) (r : Fin 384) (j : Fin 1024) :
    (k0_pay1 (F := Ideal) v8 v27 (k0_pay4 v8 v28) (k0_pay5 v39) v44 : FVec Ideal S384x1024 .bf16) (ix2 r j)
      = v27 (ix2 r j) + ∑ f : Fin 1280, act (∑ d : Fin 1024, v8 (ix2 r d) * v28 (ix3 0 d f)) (∑ d : Fin 1024, v8 (ix2 r d) * v39 (ix3 0 d f)) * v44 (ix3 0 f j) := by
  pointwise [k0_pay1, k0_pay4, k0_pay5]
  all_goals simp only [act, bits_zero, zero_sub]

theorem out_at (x0 : FVec Ideal S384x1024 .bf16) (x1 x2 : FVec Ideal S1x1024x2816 .bf16) (x3 : FVec Ideal S1x2816x1024 .bf16) (r : Fin 384) (j : Fin 1024) :
    (outA (F := Ideal) x0 x1 x2 x3 : FVec Ideal S384x1024 .bf16) (ix2 r j)
      = expert (fun d => x0 (ix2 r d)) (fun d f => x1 (ix3 0 d f)) (fun d f => x2 (ix3 0 d f)) (fun f => x3 (ix3 0 f j)) := by
  have hl : ∀ (x : FVec Ideal S1x1024x2816 .bf16) (d : Fin 1024) (f : Fin 1536), (lo (F := Ideal) x : FVec Ideal S1x1024x1536 .bf16) (ix3 0 d f) = x (ix3 0 d ⟨f.val, by omega⟩) := by
    intro x d f
    unfold lo
    pointwise
    all_goals exact congrArg x (congrArg₂ (ix3 0) (Fin.ext (by first | rfl | (dsimp only; omega) | (simp; omega))) (Fin.ext (by first | rfl | (dsimp only; omega) | (simp; omega))))
  have hh : ∀ (x : FVec Ideal S1x1024x2816 .bf16) (d : Fin 1024) (f : Fin 1280), (hi (F := Ideal) x : FVec Ideal S1x1024x1280 .bf16) (ix3 0 d f) = x (ix3 0 d ⟨1536 + f.val, by omega⟩) := by
    intro x d f
    unfold hi
    pointwise
    all_goals exact congrArg x (congrArg₂ (ix3 0) (Fin.ext (by first | rfl | (dsimp only; omega) | (simp; omega))) (Fin.ext (by first | rfl | (dsimp only; omega) | (simp; omega))))
  have hlr : ∀ (x : FVec Ideal S1x2816x1024 .bf16) (f : Fin 1536) (d : Fin 1024), (loR (F := Ideal) x : FVec Ideal S1x1536x1024 .bf16) (ix3 0 f d) = x (ix3 0 ⟨f.val, by omega⟩ d) := by
    intro x f d
    unfold loR
    pointwise
    all_goals exact congrArg x (congrArg₂ (ix3 0) (Fin.ext (by first | rfl | (dsimp only; omega) | (simp; omega))) (Fin.ext (by first | rfl | (dsimp only; omega) | (simp; omega))))
  have hhr : ∀ (x : FVec Ideal S1x2816x1024 .bf16) (f : Fin 1280) (d : Fin 1024), (hiR (F := Ideal) x : FVec Ideal S1x1280x1024 .bf16) (ix3 0 f d) = x (ix3 0 ⟨1536 + f.val, by omega⟩ d) := by
    intro x f d
    unfold hiR
    pointwise
    all_goals exact congrArg x (congrArg₂ (ix3 0) (Fin.ext (by first | rfl | (dsimp only; omega) | (simp; omega))) (Fin.ext (by first | rfl | (dsimp only; omega) | (simp; omega))))
  rw [expert_split]
  refine (second_at ..).trans (congrArg₂ (fun a b : EReal => a + b) ((first_at ..).trans ?_) ?_)
  · exact Finset.sum_congr rfl fun f _ => congrArg₂ (fun a b : EReal => a * b)
      (congrArg₂ act (Finset.sum_congr rfl fun d _ => congrArg _ (hl x1 d f)) (Finset.sum_congr rfl fun d _ => congrArg _ (hl x2 d f))) (hlr x3 f j)
  · exact Finset.sum_congr rfl fun f _ => congrArg₂ (fun a b : EReal => a * b)
      (congrArg₂ act (Finset.sum_congr rfl fun d _ => congrArg _ (hh x1 d f)) (Finset.sum_congr rfl fun d _ => congrArg _ (hh x2 d f))) (hhr x3 f j)

end Cert.MoeIdeal.Own

end
-- ==== Proof.ExpertsAt.lean ====
/- The routed experts' reference, read at an output coordinate. -/
module

public import proofs.«01_k».proof.Proof.Gen.ExpertsIdeal.Read
public import proofs.«01_k».proof.Proof.MoeAt

@[expose] public section

set_option maxRecDepth 16384

noncomputable section

namespace Cert.ExpertsIdeal.At

open Idealize.ShloMosaic Idealize.ShloMosaic.TcCoe Idealize.SL.Sem
open Cert.ExpertsIdeal Cert.ExpertsIdeal.Read Cert.Experts

variable (x0 : FVec Ideal S19200x1024 .bf16) (x1 : IVec S50 32) (x2 : IVec S1 32) (x3 x4 : FVec Ideal S8x1024x2816 .bf16) (x5 : FVec Ideal S8x2816x1024 .bf16)

/-- Every expert's output. -/
theorem all_at (e : Fin 8) (R : Fin 19200) (j : Fin 1024) :
    (val_main_v25 (F := Ideal) x0 x3 x4 x5 : FVec Ideal S8x19200x1024 .f32) (ix3 e R j)
      = expert (fun d => x0 (ix2 R d)) (fun d f => x3 (ix3 e d f)) (fun d f => x4 (ix3 e d f)) (fun f => x5 (ix3 e f j)) := by
  have ha : ∀ f : Fin 2816, (val_main_v19 (F := Ideal) x0 x3 : FVec Ideal S19200x8x2816 .f32) (ix3 R e f) = ∑ d : Fin 1024, x0 (ix2 R d) * x3 (ix3 e d f) := by
    intro f
    pointwise [val_main_v19, val_main_v0, val_main_v18]
    all_goals rfl
  have hb : ∀ f : Fin 2816, (val_main_v21 (F := Ideal) x0 x4 : FVec Ideal S19200x8x2816 .f32) (ix3 R e f) = ∑ d : Fin 1024, x0 (ix2 R d) * x4 (ix3 e d f) := by
    intro f
    pointwise [val_main_v21, val_main_v0, val_main_v20]
    all_goals rfl
  unfold expert
  simp only [← ha, ← hb]
  unfold val_main_v25 val_main_v23 val_main_v22 val_main_call1_v5 val_main_call1_v3 val_main_call1_v1 val_main_call1_v0
  generalize val_main_v19 (F := Ideal) x0 x3 = a
  generalize val_main_v21 (F := Ideal) x0 x4 = b
  pointwise [val_main_v24, val_main_call1_v4, val_main_call1_v2, val_main_call1_cst, val_main_call1_cst_0]
  all_goals rfl

/-- Whether tile `t` is in use and its expert is `e`. -/
theorem gate_at (t : Fin 50) (r : Fin 384) (e : Fin 8) (R : Fin 19200) (hR : R.val = t.val * 384 + r.val) :
    (val_main_v17 (F := Ideal) x1 x2 : FVec Ideal S19200x8 .f32) (ix2 R e)
      = if x1 (ix1 t) = BitVec.ofNat 32 e.val ∧ (BitVec.ofNat 32 t.val).slt (x2 (ix1 0)) = true then 1 else 0 := by
  have ht := t.isLt
  have hr := r.isLt
  have he := e.isLt
  have h14 : (val_main_v14 (F := Ideal) x1 x2 : FVec Ideal S50x8 .f32) (ix2 t e)
      = if x1 (ix1 t) = BitVec.ofNat 32 e.val ∧ (BitVec.ofNat 32 t.val).slt (x2 (ix1 0)) = true then 1 else 0 := by
    pointwise [val_main_v14, val_main_v13, val_main_v12, val_main_v11, val_main_v10, val_main_v9, val_main_v8, val_main_v7, val_main_v6, val_main_v5, val_main_v4, val_main_v3, val_main_v2, val_main_v1, val_main_call0_v0, val_main_call0_v1, val_main_cst, val_main_cst_0]
    generalize x1 (ix1 t) = a
    generalize (BitVec.ofNat 32 t.val) = n
    generalize x2 (ix1 0) = v
    rw [show IntOp.cmpi .eq a (BitVec.ofNat 32 e.val) = BitVec.ofBool (a == BitVec.ofNat 32 e.val) from rfl,
      show IntOp.cmpi .slt n v = BitVec.ofBool (n.slt v) from rfl]
    by_cases h1 : a = BitVec.ofNat 32 e.val
    · rw [show (a == BitVec.ofNat 32 e.val) = true from beq_iff_eq.mpr h1]
      by_cases h2 : n.slt v = true
      · rw [if_pos ⟨h1, h2⟩, h2]
        rfl
      · rw [if_neg (fun h => h2 h.2), Bool.eq_false_iff.mpr h2]
        rfl
    · rw [if_neg (fun h => h1 h.1), show (a == BitVec.ofNat 32 e.val) = false from beq_eq_false_iff_ne.mpr h1]
      cases n.slt v <;> rfl
  rw [← h14]
  rw [show (val_main_v17 (F := Ideal) x1 x2 : FVec Ideal S19200x8 .f32) (ix2 R e) = _ from val_main_v17_apply x1 x2 (ix2 R e)]
  rw [val_main_v16_apply, val_main_v15_apply]
  refine congrArg (val_main_v14 (F := Ideal) x1 x2) (funext fun a => Fin.ext ?_)
  match a with
  | ⟨0, _⟩ => show (R.val * 8 + e.val) / 3072 = t.val; omega
  | ⟨1, _⟩ => show (R.val * 8 + e.val) % 8 = e.val; omega

/-- The reference's result. -/
theorem result_at (t : Fin 50) (r : Fin 384) (j : Fin 1024) (R : Fin 19200) (hR : R.val = t.val * 384 + r.val) (e : Fin 8)
    (he : x1 (ix1 t) = BitVec.ofNat 32 e.val) :
    (val_main_v31 (F := Ideal) x0 x1 x2 x3 x4 x5 : FVec Ideal S19200x1024 .bf16) (ix2 R j)
      = if (BitVec.ofNat 32 t.val).slt (x2 (ix1 0)) = true
        then expert (fun d => x0 (ix2 R d)) (fun d f => x3 (ix3 e d f)) (fun d f => x4 (ix3 e d f)) (fun f => x5 (ix3 e f j)) else 0 := by
  have hterm : ∀ k : Fin 8, val_main_v29 (F := Ideal) x0 x1 x2 x3 x4 x5 (idx_main_v30 (ix2 R j) k)
      = (if x1 (ix1 t) = BitVec.ofNat 32 k.val ∧ (BitVec.ofNat 32 t.val).slt (x2 (ix1 0)) = true then 1 else 0)
        * expert (fun d => x0 (ix2 R d)) (fun d f => x3 (ix3 k d f)) (fun d f => x4 (ix3 k d f)) (fun f => x5 (ix3 k f j)) := by
    intro k
    rw [val_main_v29_apply, val_main_v28_apply, val_main_v27_apply, val_main_v26_apply]
    refine congrArg₂ (fun a b : EReal => a * b) ((congrArg (val_main_v17 (F := Ideal) x1 x2) ?_).trans (gate_at x1 x2 t r k R hR))
      ((congrArg (val_main_v25 (F := Ideal) x0 x3 x4 x5) ?_).trans (all_at x0 x3 x4 x5 k R j))
    · exact funext fun a => match a with | ⟨0, _⟩ => rfl | ⟨1, _⟩ => rfl
    · exact funext fun a => match a with | ⟨0, _⟩ => rfl | ⟨1, _⟩ => rfl | ⟨2, _⟩ => rfl
  have h30 : val_main_v30 (F := Ideal) x0 x1 x2 x3 x4 x5 (ix2 R j) = _ := val_main_v30_apply x0 x1 x2 x3 x4 x5 (ix2 R j)
  refine (show _ = val_main_v30 (F := Ideal) x0 x1 x2 x3 x4 x5 (ix2 R j) from rfl).trans (h30.trans ?_)
  rw [show (val_main_cst_1 (F := Ideal)) (Shape.Idx.first Cert.ExpertsIdeal.Gen.h_S_) = 0 from bits_zero, zero_add,
    Finset.sum_congr rfl fun k _ => hterm k]
  rw [Finset.sum_eq_single e]
  · by_cases h : (BitVec.ofNat 32 t.val).slt (x2 (ix1 0)) = true
    · rw [if_pos ⟨he, h⟩, if_pos h, one_mul]
    · rw [if_neg (fun hh => h hh.2), if_neg h, zero_mul]
  · intro k _ hk
    rw [if_neg, zero_mul]
    rintro ⟨hh, -⟩
    refine hk (Fin.ext ?_)
    have h2 := congrArg BitVec.toNat (he.symm.trans hh)
    rw [BitVec.toNat_ofNat, BitVec.toNat_ofNat] at h2
    have := k.isLt
    have := e.isLt
    omega
  · intro h
    exact absurd (Finset.mem_univ _) h

end Cert.ExpertsIdeal.At

end
-- ==== Proof.MoeOk.lean ====
/- The launch's side condition of the routed experts' kernel, from the precondition: an expert's number
   below eight keeps the expert's block of each weight array inside that array. -/
module

public import proofs.«01_k».proof.Defs
public import proofs.«01_k».proof.Proof.MoeRun
public import proofs.«01_k».proof.Proof.MoeWords
public import Idealize.ShloMosaic.Lib.ReduceAll

@[expose] public section

set_option maxRecDepth 16384

noncomputable section

namespace Cert.Range

open Idealize.ShloMosaic Idealize.ShloMosaic.TcCoe Idealize.SL.Sem

theorem small (v : BitVec 32) (h0 : IntOp.cmpi .sge v 0#32 = 1#1) (h8 : IntOp.cmpi .slt v 8#32 = 1#1) : v.toNat < 8 := by
  have h0' : BitVec.sle 0#32 v = true := by
    by_contra hn
    rw [show IntOp.cmpi .sge v 0#32 = BitVec.ofBool (BitVec.sle 0#32 v) from rfl, Bool.eq_false_iff.mpr hn] at h0
    exact absurd h0 (by decide)
  have h8' : BitVec.slt v 8#32 = true := by
    by_contra hn
    rw [show IntOp.cmpi .slt v 8#32 = BitVec.ofBool (BitVec.slt v 8#32) from rfl, Bool.eq_false_iff.mpr hn] at h8
    exact absurd h8 (by decide)
  simp only [BitVec.sle, BitVec.slt, decide_eq_true_eq] at h0' h8'
  have e := BitVec.toInt_eq_toNat_cond v
  have e0 : (0#32 : BitVec 32).toInt = 0 := by decide
  have e8 : (8#32 : BitVec 32).toInt = 8 := by decide
  have := v.isLt
  rw [e0] at h0'
  rw [e8] at h8'
  split at e <;> omega

variable [Cert.Pre_experts_in_range.Facts]

/-- Every tile's expert is one of the eight. -/
theorem range_args {F : FTy → Type} [FloatOps F] (x0 : FVec F Cert.Pre_experts_in_range.S19200x1024 .bf16) (x1 : IVec Cert.Pre_experts_in_range.S50 32)
    (x2 : IVec Cert.Pre_experts_in_range.S1 32) (x3 x4 : FVec F Cert.Pre_experts_in_range.S8x1024x2816 .bf16)
    (x5 : FVec F Cert.Pre_experts_in_range.S8x2816x1024 .bf16)
    (h : Cert.Pre_experts_in_range.fn (F := F) x0 x1 x2 x3 x4 x5 = fun _ => 1#1) (i : Cert.Pre_experts_in_range.S50.Idx) : (x1 i).toNat < 8 := by
  have h0 := congrFun h (fun a => a.elim0)
  dsimp only [Cert.Pre_experts_in_range.fn] at h0
  have hand : ∀ p q : BitVec 1, p &&& q = 1#1 → p = 1#1 ∧ q = 1#1 := by decide
  have sub : Subsingleton Cert.Pre_experts_in_range.S_.Idx := ⟨fun a b => funext fun i => i.elim0⟩
  obtain ⟨ha, hb⟩ := hand _ _ (Host.reduce_andi_all _ _ _ _ _ h0 i)
  exact small _ ha hb

end Cert.Range

namespace Cert.MoeIdeal.Own
open Idealize.ShloMosaic Idealize.ShloMosaic.TcCoe Idealize.SL.Sem
open Cert.MoeIdeal Cert.MoeIdeal.Gen
variable {F : FTy → Type} [FloatOps F] (m : (ℓ : Loc nD τ sig) → Buf (Elt F) ℓ)

theorem ok_of (h : ∀ j : S50.Idx, (show BitVec 32 from tbl m 0 j).toNat < 8) : Ok m := by
  have hh : ∀ i : grid0.Coords, (show BitVec 32 from (tbl m).at 0 (Rect.unit (s := S50) (k0_off1 i) S1.size (k0_off1_inb i)) numel1_S1).toNat < 8 := fun i => h _
  have e1 : ∀ i : grid0.Coords, cc0_transform_1 k0_off1_inb numel1_S1 (tbl m) i 0 < 8 := fun i => hh i
  have e2 : ∀ i : grid0.Coords, cc0_transform_2 k0_off1_inb numel1_S1 (tbl m) i 0 < 8 := fun i => hh i
  have e3 : ∀ i : grid0.Coords, cc0_transform_3 k0_off1_inb numel1_S1 (tbl m) i 0 < 8 := fun i => hh i
  have f1 : ∀ (i : grid0.Coords) a, (cc0_transform_1 k0_off1_inb numel1_S1 (tbl m) i a + 1) * S1x1024x2816.size a ≤ S8x1024x2816.size a := fun i a => match a with
    | ⟨0, _⟩ => by show (cc0_transform_1 k0_off1_inb numel1_S1 (tbl m) i 0 + 1) * 1 ≤ 8; have := e1 i; omega
    | ⟨1, _⟩ => by show (0 + 1) * 1024 ≤ 1024; omega
    | ⟨2, _⟩ => by show (0 + 1) * 2816 ≤ 2816; omega
  have f2 : ∀ (i : grid0.Coords) a, (cc0_transform_2 k0_off1_inb numel1_S1 (tbl m) i a + 1) * S1x1024x2816.size a ≤ S8x1024x2816.size a := fun i a => match a with
    | ⟨0, _⟩ => by show (cc0_transform_2 k0_off1_inb numel1_S1 (tbl m) i 0 + 1) * 1 ≤ 8; have := e2 i; omega
    | ⟨1, _⟩ => by show (0 + 1) * 1024 ≤ 1024; omega
    | ⟨2, _⟩ => by show (0 + 1) * 2816 ≤ 2816; omega
  have f3 : ∀ (i : grid0.Coords) a, (cc0_transform_3 k0_off1_inb numel1_S1 (tbl m) i a + 1) * S1x2816x1024.size a ≤ S8x2816x1024.size a := fun i a => match a with
    | ⟨0, _⟩ => by show (cc0_transform_3 k0_off1_inb numel1_S1 (tbl m) i 0 + 1) * 1 ≤ 8; have := e3 i; omega
    | ⟨1, _⟩ => by show (0 + 1) * 2816 ≤ 2816; omega
    | ⟨2, _⟩ => by show (0 + 1) * 1024 ≤ 1024; omega
  exact ⟨fun i => ⟨f1 i, .inr (Affine.block_words_dvd (of_decide_eq_true rfl) (by decide))⟩,
    fun i => ⟨f2 i, .inr (Affine.block_words_dvd (of_decide_eq_true rfl) (by decide))⟩,
    fun i => ⟨f3 i, .inr (Affine.block_words_dvd (of_decide_eq_true rfl) (by decide))⟩⟩

end Cert.MoeIdeal.Own

namespace Cert.Moe.Own
open Idealize.ShloMosaic Idealize.ShloMosaic.TcCoe Idealize.SL.Sem
open Cert.Moe Cert.Moe.Gen
variable {F : FTy → Type} [FloatOps F] (m : (ℓ : Loc nD τ sig) → Buf (Elt F) ℓ)

theorem ok_of (h : ∀ j : S50.Idx, (show BitVec 32 from tbl m 0 j).toNat < 8) : Ok m := by
  have hh : ∀ i : grid0.Coords, (show BitVec 32 from (tbl m).at 0 (Rect.unit (s := S50) (k0_off1 i) S1.size (k0_off1_inb i)) numel1_S1).toNat < 8 := fun i => h _
  have e1 : ∀ i : grid0.Coords, cc0_transform_1 k0_off1_inb numel1_S1 (tbl m) i 0 < 8 := fun i => hh i
  have e2 : ∀ i : grid0.Coords, cc0_transform_2 k0_off1_inb numel1_S1 (tbl m) i 0 < 8 := fun i => hh i
  have e3 : ∀ i : grid0.Coords, cc0_transform_3 k0_off1_inb numel1_S1 (tbl m) i 0 < 8 := fun i => hh i
  have f1 : ∀ (i : grid0.Coords) a, (cc0_transform_1 k0_off1_inb numel1_S1 (tbl m) i a + 1) * S1x1024x2816.size a ≤ S8x1024x2816.size a := fun i a => match a with
    | ⟨0, _⟩ => by show (cc0_transform_1 k0_off1_inb numel1_S1 (tbl m) i 0 + 1) * 1 ≤ 8; have := e1 i; omega
    | ⟨1, _⟩ => by show (0 + 1) * 1024 ≤ 1024; omega
    | ⟨2, _⟩ => by show (0 + 1) * 2816 ≤ 2816; omega
  have f2 : ∀ (i : grid0.Coords) a, (cc0_transform_2 k0_off1_inb numel1_S1 (tbl m) i a + 1) * S1x1024x2816.size a ≤ S8x1024x2816.size a := fun i a => match a with
    | ⟨0, _⟩ => by show (cc0_transform_2 k0_off1_inb numel1_S1 (tbl m) i 0 + 1) * 1 ≤ 8; have := e2 i; omega
    | ⟨1, _⟩ => by show (0 + 1) * 1024 ≤ 1024; omega
    | ⟨2, _⟩ => by show (0 + 1) * 2816 ≤ 2816; omega
  have f3 : ∀ (i : grid0.Coords) a, (cc0_transform_3 k0_off1_inb numel1_S1 (tbl m) i a + 1) * S1x2816x1024.size a ≤ S8x2816x1024.size a := fun i a => match a with
    | ⟨0, _⟩ => by show (cc0_transform_3 k0_off1_inb numel1_S1 (tbl m) i 0 + 1) * 1 ≤ 8; have := e3 i; omega
    | ⟨1, _⟩ => by show (0 + 1) * 2816 ≤ 2816; omega
    | ⟨2, _⟩ => by show (0 + 1) * 1024 ≤ 1024; omega
  exact ⟨fun i => ⟨f1 i, .inr (Affine.block_words_dvd (of_decide_eq_true rfl) (by decide))⟩,
    fun i => ⟨f2 i, .inr (Affine.block_words_dvd (of_decide_eq_true rfl) (by decide))⟩,
    fun i => ⟨f3 i, .inr (Affine.block_words_dvd (of_decide_eq_true rfl) (by decide))⟩⟩

end Cert.Moe.Own

end
-- ==== Proof.MoeFinal.lean ====
/- The routed experts' kernel's result is the reference's. -/
module

public import proofs.«01_k».proof.Proof.ExpertsAt
public import proofs.«01_k».proof.Proof.MoeOk

@[expose] public section

set_option maxRecDepth 16384

noncomputable section

namespace Cert.MoeIdeal.Own

open Idealize.ShloMosaic Idealize.ShloMosaic.TcCoe Idealize.SL.Sem
open Idealize.ShloMosaic.Pipeline (Dat)
open Cert.MoeIdeal Cert.MoeIdeal.Gen Cert.Experts

variable (m : (ℓ : Loc nD τ sig) → Buf (Elt Ideal) ℓ)

abbrev A0 (c : Dev nD) : FVec Ideal S19200x1024 .bf16 := m ((c.tc : Thread nD τ).loc main_arg0)
abbrev A1 (c : Dev nD) : IVec S50 32 := m ((c.tc : Thread nD τ).loc main_arg1)
abbrev A2 (c : Dev nD) : IVec S1 32 := m ((c.tc : Thread nD τ).loc main_arg2)
abbrev A3 (c : Dev nD) : FVec Ideal S8x1024x2816 .bf16 := m ((c.tc : Thread nD τ).loc main_arg3)
abbrev A4 (c : Dev nD) : FVec Ideal S8x1024x2816 .bf16 := m ((c.tc : Thread nD τ).loc main_arg4)
abbrev A5 (c : Dev nD) : FVec Ideal S8x2816x1024 .bf16 := m ((c.tc : Thread nD τ).loc main_arg5)

theorem index0 : ∀ t : Fin grid0.N, cc0_transform_0 (grid0.coords t) = ![t.val, 0] := by decide +kernel
theorem index4 : ∀ t : Fin grid0.N, cc0_transform_4 (grid0.coords t) = ![t.val, 0] := by decide +kernel
theorem word0 : ∀ t : Fin grid0.N, (Scalar.indexCast (BitVec.ofNat 32 (grid0.coords t 0).val)).toNat = t.val := by decide +kernel

/-- The expert the first table names at point `t`. -/
theorem pick (c : Dev nD) (t : Fin grid0.N) :
    (show BitVec 32 from (tbl m).at 0 (Rect.unit (s := S50) (k0_off1 (grid0.coords t)) S1.size (k0_off1_inb (grid0.coords t))) numel1_S1)
      = A1 m c (ix1 (⟨t.val, t.isLt⟩ : Fin 50)) := by
  obtain rfl : c = 0 := Subsingleton.elim _ _
  refine congrArg (A1 m 0) (funext fun a => Fin.ext ?_)
  match a with
  | ⟨0, _⟩ => show k0_off1 (grid0.coords t) 0 + 1 * 0 = t.val; exact word0 t

theorem at0 (hO : Ok m) (c : Dev nD) (t : Fin (cfgM m hO).N) (r : Fin 384) (d : Fin 1024) (R : Fin 19200) (hR : R.val = t.val * 384 + r.val) :
    (iblk m hO c 0 t : FVec Ideal S384x1024 .bf16) (ix2 r d) = A0 m c (ix2 R d) := by
  have h0 : cc0_transform_0 (grid0.coords t) 0 = t.val := congrFun (index0 t) 0
  refine congrArg (A0 m c) (funext fun a => Fin.ext ?_)
  match a with
  | ⟨0, _⟩ => show cc0_transform_0 (grid0.coords t) 0 * 384 + 1 * r.val = R.val; omega
  | ⟨1, _⟩ => show 0 * 1024 + 1 * d.val = d.val; omega

theorem at1 (hO : Ok m) (c : Dev nD) (t : Fin (cfgM m hO).N) (e : Fin 8)
    (he : (A1 m c (ix1 (⟨t.val, t.isLt⟩ : Fin 50))).toNat = e.val) (d : Fin 1024) (f : Fin 2816) :
    (iblk m hO c 1 t : FVec Ideal S1x1024x2816 .bf16) (ix3 0 d f) = A3 m c (ix3 e d f) := by
  have h0 : cc0_transform_1 k0_off1_inb numel1_S1 (tbl m) (grid0.coords t) 0 = e.val := (congrArg BitVec.toNat (pick m c t)).trans he
  refine congrArg (A3 m c) (funext fun a => Fin.ext ?_)
  match a with
  | ⟨0, _⟩ => show cc0_transform_1 k0_off1_inb numel1_S1 (tbl m) (grid0.coords t) 0 * 1 + 1 * 0 = e.val; omega
  | ⟨1, _⟩ => show 0 * 1024 + 1 * d.val = d.val; omega
  | ⟨2, _⟩ => show 0 * 2816 + 1 * f.val = f.val; omega

theorem at2 (hO : Ok m) (c : Dev nD) (t : Fin (cfgM m hO).N) (e : Fin 8)
    (he : (A1 m c (ix1 (⟨t.val, t.isLt⟩ : Fin 50))).toNat = e.val) (d : Fin 1024) (f : Fin 2816) :
    (iblk m hO c 2 t : FVec Ideal S1x1024x2816 .bf16) (ix3 0 d f) = A4 m c (ix3 e d f) := by
  have h0 : cc0_transform_2 k0_off1_inb numel1_S1 (tbl m) (grid0.coords t) 0 = e.val := (congrArg BitVec.toNat (pick m c t)).trans he
  refine congrArg (A4 m c) (funext fun a => Fin.ext ?_)
  match a with
  | ⟨0, _⟩ => show cc0_transform_2 k0_off1_inb numel1_S1 (tbl m) (grid0.coords t) 0 * 1 + 1 * 0 = e.val; omega
  | ⟨1, _⟩ => show 0 * 1024 + 1 * d.val = d.val; omega
  | ⟨2, _⟩ => show 0 * 2816 + 1 * f.val = f.val; omega

theorem at3 (hO : Ok m) (c : Dev nD) (t : Fin (cfgM m hO).N) (e : Fin 8)
    (he : (A1 m c (ix1 (⟨t.val, t.isLt⟩ : Fin 50))).toNat = e.val) (f : Fin 2816) (d : Fin 1024) :
    (iblk m hO c 3 t : FVec Ideal S1x2816x1024 .bf16) (ix3 0 f d) = A5 m c (ix3 e f d) := by
  have h0 : cc0_transform_3 k0_off1_inb numel1_S1 (tbl m) (grid0.coords t) 0 = e.val := (congrArg BitVec.toNat (pick m c t)).trans he
  refine congrArg (A5 m c) (funext fun a => Fin.ext ?_)
  match a with
  | ⟨0, _⟩ => show cc0_transform_3 k0_off1_inb numel1_S1 (tbl m) (grid0.coords t) 0 * 1 + 1 * 0 = e.val; omega
  | ⟨1, _⟩ => show 0 * 2816 + 1 * f.val = f.val; omega
  | ⟨2, _⟩ => show 0 * 1024 + 1 * d.val = d.val; omega

/-- The count of tiles in use, as the body reads it. -/
theorem count (c : Dev nD) : word (tbl m 1) = A2 m c (ix1 0) := by
  obtain rfl : c = 0 := Subsingleton.elim _ _
  refine congrArg (A2 m 0) (funext fun a => Fin.ext ?_)
  match a with
  | ⟨0, _⟩ => rfl

theorem used (t : Fin grid0.N) (v : BitVec 32) : k0_cond1 (grid0.coords t) v = 1#1 ↔ (BitVec.ofNat 32 t.val).slt v = true := by
  have e : (grid0.coords t 0).val = t.val := (by decide +kernel : ∀ t : Fin grid0.N, (grid0.coords t 0).val = t.val) t
  simp only [k0_cond1]
  rw [e]
  rw [show Scalar.cmpi .slt (BitVec.ofNat 32 t.val) v = BitVec.ofBool ((BitVec.ofNat 32 t.val).slt v) from rfl]
  cases (BitVec.ofNat 32 t.val).slt v <;> simp [Scalar.cmpi, Scalar.extui, IntOp.cmpi]

/-- What a grid point leaves. -/
theorem out_eq (hO : Ok m) (c : Dev nD) (h : ∀ j, (A1 m c j).toNat < 8) (t : Fin (cfgM m hO).N) (r : Fin 384) (j : Fin 1024)
    (R : Fin 19200) (hR : R.val = t.val * 384 + r.val) :
    (outAt m hO c t : FVec Ideal S384x1024 .bf16) (ix2 r j)
      = (Cert.ExpertsIdeal.Read.val_main_v31 (F := Ideal) (A0 m c) (A1 m c) (A2 m c) (A3 m c) (A4 m c) (A5 m c) : FVec Ideal S19200x1024 .bf16) (ix2 R j) := by
  have h8 := h (ix1 (⟨t.val, t.isLt⟩ : Fin 50))
  refine Eq.trans ?_ (Cert.ExpertsIdeal.At.result_at (A0 m c) (A1 m c) (A2 m c) (A3 m c) (A4 m c) (A5 m c) (⟨t.val, t.isLt⟩ : Fin 50) r j R hR
    ⟨(A1 m c (ix1 (⟨t.val, t.isLt⟩ : Fin 50))).toNat, h8⟩ (BitVec.eq_of_toNat_eq (by rw [BitVec.toNat_ofNat]; exact (Nat.mod_eq_of_lt (A1 m c _).isLt).symm))).symm
  unfold outAt
  by_cases hu : (BitVec.ofNat 32 t.val).slt (A2 m c (ix1 0)) = true
  · rw [if_pos ((used t _).mpr ((count m c).symm ▸ hu)), if_pos hu]
    refine (out_at _ _ _ _ r j).trans ?_
    rw [show (fun d => (iblk m hO c 0 t : FVec Ideal S384x1024 .bf16) (ix2 r d)) = fun d => A0 m c (ix2 R d) from funext fun d => at0 m hO c t r d R hR,
      show (fun d f => (iblk m hO c 1 t : FVec Ideal S1x1024x2816 .bf16) (ix3 0 d f)) = _ from funext fun d => funext fun f => at1 m hO c t ⟨_, h8⟩ rfl d f,
      show (fun d f => (iblk m hO c 2 t : FVec Ideal S1x1024x2816 .bf16) (ix3 0 d f)) = _ from funext fun d => funext fun f => at2 m hO c t ⟨_, h8⟩ rfl d f,
      show (fun f => (iblk m hO c 3 t : FVec Ideal S1x2816x1024 .bf16) (ix3 0 f j)) = _ from funext fun f => at3 m hO c t ⟨_, h8⟩ rfl f j]
  · rw [if_neg (fun h => hu ((count m c) ▸ (used t _).mp h)), if_neg hu]
    pointwise [k0_pay2]

theorem flush4 : ∀ t : Fin grid0.N, (decide (t.val + 1 = grid0.N) || decide (∃ h : t.val + 1 < grid0.N,
    cc0_transform_4 (grid0.coords ⟨t.val + 1, h⟩) ≠ cc0_transform_4 (grid0.coords t))) = true := by decide +kernel

/-- The points' blocks fill the result. -/
theorem covers (hO : Ok m) : ((cfgM m hO).win 4).Covers := by
  refine ⟨fun a => ?_, fun β => ?_⟩
  · match a with
    | ⟨0, _⟩ => exact (by decide : 0 < 384)
    | ⟨1, _⟩ => exact (by decide : 0 < 1024)
  · have hb : (β (0 : Fin 2)).val < 50 := lt_of_lt_of_eq (β (0 : Fin 2)).isLt (show ((19200 + 384 - 1) / 384 : ℕ) = 50 by decide)
    refine ⟨(⟨(β (0 : Fin 2)).val, hb⟩ : Fin grid0.N), flush4 _, fun a => ?_⟩
    match a with
    | ⟨0, _⟩ => exact ⟨congrFun (index4 ⟨(β (0 : Fin 2)).val, hb⟩) 0, .inl rfl⟩
    | ⟨1, _⟩ =>
      have h1 : (β (1 : Fin 2)).val < 1 := lt_of_lt_of_eq (β (1 : Fin 2)).isLt (show ((1024 + 1024 - 1) / 1024 : ℕ) = 1 by decide)
      exact ⟨(congrFun (index4 ⟨(β (0 : Fin 2)).val, hb⟩) 1).trans (by show 0 = (β (1 : Fin 2)).val; omega), .inl rfl⟩

/-- The result array. -/
theorem final (hO : Ok m) (c : Dev nD) (h : ∀ j, (A1 m c j).toNat < 8) :
    (dats m hO 0 c).arrAt 4 (cfgM m hO).N
      = Cert.ExpertsIdeal.Read.val_main_v31 (F := Ideal) (A0 m c) (A1 m c) (A2 m c) (A3 m c) (A4 m c) (A5 m c) := by
  refine (dats m hO 0 c).arrAt_eq_of_covers 4 _ ?_ fun t _ y => ?_
  · exact covers m hO
  · blk_simp
    rw [after4]
    have ht : t.val < 50 := t.isLt
    obtain ⟨z, hz⟩ : ∃ z : S384x1024.Idx, z = y := ⟨y, rfl⟩
    subst hz
    have hy : (z 0).val < 384 := (z 0).isLt
    have hE : (((cfgM m hO).win 4).blk t).view.emb z = ix2 (⟨t.val * 384 + (z 0).val, by omega⟩ : Fin 19200) (⟨(z 1).val, (z 1).isLt⟩ : Fin 1024) := by
      have h0 : cc0_transform_4 (grid0.coords t) 0 = t.val := congrFun (index4 t) 0
      refine funext fun a => Fin.ext ?_
      match a with
      | ⟨0, _⟩ => show cc0_transform_4 (grid0.coords t) 0 * 384 + 1 * (z 0).val = t.val * 384 + (z 0).val; omega
      | ⟨1, _⟩ => show 0 * 1024 + 1 * (z 1).val = (z 1).val; omega
    rw [hE]
    refine (congrArg (outAt m hO c t) (eq_ix2 z)).trans (out_eq m hO c h t _ _ _ rfl)

end Cert.MoeIdeal.Own

end
-- ==== Proof.InprojAt.lean ====
/- The input projection: the modulated row, its product with the weights, in the kernel and in the reference. -/
module

public import proofs.«01_k».proof.Proof.Gen.InprojIdeal.Value
public import proofs.«01_k».proof.Proof.Gen.ProjectIdeal.Read
public import Idealize.ShloMosaic.Lib.Pipeline.ValueKit
public import Idealize.ShloMosaic.Lib.Pointwise
public import Idealize.ShloMosaic.Lib.Claim
public import Idealize.ShloMosaic.PureOps.Ideal.Laws

@[expose] public section

set_option maxRecDepth 16384

noncomputable section

namespace Cert.Project

open Idealize.ShloMosaic

/-- One coordinate of a position's row: divided by its root mean square, scaled by the gain and by one more than `s`, shifted by `b`. -/
def modulated (x g s b : Fin 1024 → EReal) (d : Fin 1024) : EReal :=
  x d * Ideal.rsqrt (Ideal.div (∑ e, x e * x e) (Ideal.ofBits .f32 0x44800000#32) + Ideal.ofBits .f32 0x358637BD#32) * g d * (1 + s d) + b d

end Cert.Project

namespace Cert.ProjectIdeal.At

open Idealize.ShloMosaic Idealize.ShloMosaic.TcCoe Idealize.SL.Sem
open Cert.ProjectIdeal Cert.ProjectIdeal.Read Cert.Project

variable (x0 : FVec Ideal S2x4096x1024 .f32) (x1 : FVec Ideal S2x6x1024 .f32) (x2 : FVec Ideal S1024 .f32) (x3 : FVec Ideal S10752x1024 .bf16)

theorem row_at (b : Fin 2) (p : Fin 4096) (d : Fin 1024) :
    (val_main_v20 (F := Ideal) x0 x1 x2 : FVec Ideal S2x4096x1024 .f32) (ix3 b p d)
      = modulated (fun d => x0 (ix3 b p d)) (fun d => x2 (ix1 d)) (fun d => x1 (ix3 b 1 d)) (fun d => x1 (ix3 b 0 d)) d := by
  unfold modulated
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  all_goals rfl

theorem result_at (b : Fin 2) (p : Fin 4096) (n : Fin 10752) (R : Fin 8192) (hR : R.val = b.val * 4096 + p.val) :
    (val_main_v25 (F := Ideal) x0 x1 x2 x3 : FVec Ideal S8192x10752 .bf16) (ix2 R n)
      = ∑ d : Fin 1024, modulated (fun d => x0 (ix3 b p d)) (fun d => x2 (ix1 d)) (fun d => x1 (ix3 b 1 d)) (fun d => x1 (ix3 b 0 d)) d * x3 (ix2 n d) := by
  have h21 : ∀ d : Fin 1024, (val_main_v21 (F := Ideal) x0 x1 x2 : FVec Ideal S8192x1024 .f32) (ix2 R d)
      = modulated (fun d => x0 (ix3 b p d)) (fun d => x2 (ix1 d)) (fun d => x1 (ix3 b 1 d)) (fun d => x1 (ix3 b 0 d)) d := by
    intro d
    rw [val_main_v21_apply]
    refine (congrArg (val_main_v20 (F := Ideal) x0 x1 x2) (funext fun a => Fin.ext ?_)).trans (row_at x0 x1 x2 b p d)
    have hd := d.isLt
    have hp := p.isLt
    have hb := b.isLt
    match a with
    | ⟨0, _⟩ => show (R.val * 1024 + d.val) / 4194304 = b.val; omega
    | ⟨1, _⟩ => show (R.val * 1024 + d.val) / 1024 % 4096 = p.val; omega
    | ⟨2, _⟩ => show (R.val * 1024 + d.val) % 1024 = d.val; omega
  refine (val_main_v24_apply x0 x1 x2 x3 (ix2 R n)).trans (Finset.sum_congr rfl fun d _ => congrArg₂ (fun a b : EReal => a * b) (Eq.trans ?_ (h21 d)) ?_)
  · exact congrArg (val_main_v21 (F := Ideal) x0 x1 x2) (funext fun a => match a with | ⟨0, _⟩ => rfl | ⟨1, _⟩ => rfl)
  · rw [val_main_v23_apply, val_main_v22_apply]
    exact congrArg x3 (funext fun a => match a with | ⟨0, _⟩ => rfl | ⟨1, _⟩ => rfl)

end Cert.ProjectIdeal.At

namespace Cert.InprojIdeal.At

open Idealize.ShloMosaic Idealize.ShloMosaic.TcCoe Idealize.SL.Sem
open Cert.InprojIdeal Cert.InprojIdeal.Gen Cert.Project

theorem rows_at (x : FVec Ideal S2048x1024 .f32) (g : FVec Ideal S1x1024 .f32) (s b : FVec Ideal S1x1x1024 .f32) (r : Fin 2048) (d : Fin 1024) :
    (k0_pay1 (F := Ideal) x g s b : FVec Ideal S2048x1024 .bf16) (ix2 r d)
      = modulated (fun d => x (ix2 r d)) (fun d => g (ix2 0 d)) (fun d => s (ix3 0 0 d)) (fun d => b (ix3 0 0 d)) d := by
  unfold modulated
  pointwise [k0_pay1]
  all_goals rfl

theorem prod_at (h : FVec Ideal S2048x1024 .bf16) (w : FVec Ideal S1536x1024 .bf16) (r : Fin 2048) (n : Fin 1536) :
    (k0_pay2 (F := Ideal) h w : FVec Ideal S2048x1536 .bf16) (ix2 r n) = ∑ d : Fin 1024, h (ix2 r d) * w (ix2 n d) := by
  pointwise [k0_pay2]
  all_goals rfl

end Cert.InprojIdeal.At

end
-- ==== Proof.InprojFinal.lean ====
/- The input projection's result is the reference's. -/
module

public import proofs.«01_k».proof.Proof.InprojAt
public import Idealize.ShloMosaic.Lib.KernelVsHost

@[expose] public section

set_option maxRecDepth 16384

noncomputable section

namespace Cert.InprojIdeal.At

open Idealize.ShloMosaic Idealize.ShloMosaic.TcCoe Idealize.SL.Sem
open Idealize.ShloMosaic.Pipeline (Dat)
open Cert.InprojIdeal Cert.InprojIdeal.Gen Cert.Project

variable (m : (ℓ : Loc nD τ sig) → Buf (Elt Ideal) ℓ)

abbrev A0 (c : Dev nD) : FVec Ideal S2x4096x1024 .f32 := m ((c.tc : Thread nD τ).loc main_arg0)
abbrev A1 (c : Dev nD) : FVec Ideal S2x6x1024 .f32 := m ((c.tc : Thread nD τ).loc main_arg1)
abbrev A2 (c : Dev nD) : FVec Ideal S1024 .f32 := m ((c.tc : Thread nD τ).loc main_arg2)
abbrev A3 (c : Dev nD) : FVec Ideal S10752x1024 .bf16 := m ((c.tc : Thread nD τ).loc main_arg3)

theorem idx (t : Fin cfg0.N) :
    win0_0.index t = ![t.val / 7, 0] ∧ win0_1.index t = ![t.val / 14, 0, 0] ∧ win0_2.index t = ![0, 0]
      ∧ win0_3.index t = ![t.val % 7, 0] ∧ win0_4.index t = ![t.val / 7, t.val % 7] := by
  revert t
  decide +kernel

theorem modulated_congr {x g s b x' g' s' b' : Fin 1024 → EReal} (hx : ∀ d, x d = x' d) (hg : ∀ d, g d = g' d) (hs : ∀ d, s d = s' d)
    (hb : ∀ d, b d = b' d) (d : Fin 1024) : modulated x g s b d = modulated x' g' s' b' d := by
  rw [funext hx, funext hg, funext hs, funext hb]

/-- The positions, the two samples' one after the other. -/
theorem V_x (c : Dev nD) (b : Fin 2) (p : Fin 4096) (d : Fin 1024) (R : Fin 8192) (hR : R.val = b.val * 4096 + p.val) :
    (V m c main_v1 : FVec Ideal S8192x1024 .f32) (ix2 R d) = A0 m c (ix3 b p d) := by
  have e : (V m c main_v1 : FVec Ideal S8192x1024 .f32) = shapeCast S8192x1024 (A0 m c) shapeCasts_S2x4096x1024_S8192x1024 := rfl
  rw [e]
  pointwise
  refine congrArg (A0 m c) (funext fun a => Fin.ext ?_)
  have hd := d.isLt
  have hp := p.isLt
  have hb := b.isLt
  match a with
  | ⟨0, _⟩ => show R.val / 4096 = b.val; omega
  | ⟨1, _⟩ => show R.val % 4096 = p.val; omega
  | ⟨2, _⟩ => rfl

/-- The six modulation rows, padded with two rows of zeros. -/
theorem V_mod (c : Dev nD) (b : Fin 2) (k : Fin 8) (k' : Fin 6) (hk : k.val = k'.val) (d : Fin 1024) :
    (V m c main_v0 : FVec Ideal S2x8x1024 .f32) (ix3 b k d) = A1 m c (ix3 b k' d) := by
  have e : (V m c main_v0 : FVec Ideal S2x8x1024 .f32) = pad S2x8x1024 ![0, 0, 0] ![0, 2, 0] ![0, 0, 0] (A1 m c)
    (sitofp (F := Ideal) .f32 (constantI S_ 32 0#32)) pads_S2x6x1024_S2x8x1024_000_020_000 h_S_ := rfl
  rw [e]
  refine pad_apply_of_inside _ _ _ _ _ _ _ _ (ix3 b k' d) fun a => ?_
  match a with
  | ⟨0, _⟩ => show b.val = 0 + b.val * (0 + 1); omega
  | ⟨1, _⟩ => show k.val = 0 + k'.val * (0 + 1); omega
  | ⟨2, _⟩ => show d.val = 0 + d.val * (0 + 1); omega

theorem V_gain (c : Dev nD) (d : Fin 1024) :
    (V m c main_v2 : FVec Ideal S1x1024 .f32) (ix2 0 d) = A2 m c (ix1 d) := by
  have e : (V m c main_v2 : FVec Ideal S1x1024 .f32) = shapeCast S1x1024 (A2 m c) shapeCasts_S1024_S1x1024 := rfl
  rw [e]
  pointwise

/-- The row of position `p` of sample `b`, modulated. -/
abbrev row (c : Dev nD) (b : Fin 2) (p : Fin 4096) : Fin 1024 → EReal :=
  modulated (fun d => A0 m c (ix3 b p d)) (fun d => A2 m c (ix1 d)) (fun d => A1 m c (ix3 b 1 d)) (fun d => A1 m c (ix3 b 0 d))

theorem x_at (c : Dev nD) (t : Fin cfg0.N) (r : Fin 2048) (d : Fin 1024) (b : Fin 2) (p : Fin 4096)
    (hR : t.val / 7 * 2048 + r.val = b.val * 4096 + p.val) :
    (iblk m c 0 t : FVec Ideal S2048x1024 .f32) (ix2 r d) = A0 m c (ix3 b p d) := by
  have ht : t.val < 28 := t.isLt
  rw [← V_x m c b p d ⟨t.val / 7 * 2048 + r.val, by omega⟩ hR]
  blk_ext [iblk, (idx t).1]

theorem gain_at (c : Dev nD) (t : Fin cfg0.N) (d : Fin 1024) :
    (iblk m c 2 t : FVec Ideal S1x1024 .f32) (ix2 0 d) = A2 m c (ix1 d) := by
  rw [← V_gain m c d]
  blk_ext [iblk, (idx t).2.2.1]

theorem w_at (c : Dev nD) (t : Fin cfg0.N) (n : Fin 1536) (d : Fin 1024) (N : Fin 10752) (hN : N.val = t.val % 7 * 1536 + n.val) :
    (iblk m c 3 t : FVec Ideal S1536x1024 .bf16) (ix2 n d) = A3 m c (ix2 N d) := by
  have e : N = ⟨t.val % 7 * 1536 + n.val, by have := N.isLt; omega⟩ := Fin.ext hN
  rw [e]
  blk_ext [iblk, V, (idx t).2.2.2.1]

theorem mod_at (c : Dev nD) (t : Fin cfg0.N) (k : Fin 8) (k' : Fin 6) (hk : k.val = k'.val) (d : Fin 1024) (b : Fin 2) (hb : b.val = t.val / 14) :
    (iblk m c 1 t : FVec Ideal S1x8x1024 .f32) (ix3 0 k d) = A1 m c (ix3 b k' d) := by
  rw [← V_mod m c b k k' hk d]
  have e : b = ⟨t.val / 14, by have := b.isLt; omega⟩ := Fin.ext hb
  rw [e]
  blk_ext [iblk, (idx t).2.1]

/-- The rows the first column block of a row block computes. -/
theorem first_rows (c : Dev nD) (t : Fin cfg0.N) (h0 : t.val % 7 = 0) :
    (outsAt0 m c t.val t.isLt).2 = k0_pay1 (F := Ideal) (iblk m c 0 t) (iblk m c 2 t)
      (View.ld (iblk m c 1 t) (Rect.unit ![0, 1, 0] S1x1x1024.size inb_S1x8x1024_S1x1x1024_0_1_0))
      (View.ld (iblk m c 1 t) (Rect.unit ![0, 0, 0] S1x1x1024.size inb_S1x8x1024_S1x1x1024_0_0_0)) := by
  rw [outsAt0_A m c t h0]
  frame_out
  rfl

theorem scale_at (x : FVec Ideal S1x8x1024 .f32) (d : Fin 1024) :
    (show FVec Ideal S1x1x1024 .f32 from View.ld (Val := Elt Ideal) (e' := .f32) x (Rect.unit (s := S1x8x1024) ![0, 1, 0] S1x1x1024.size inb_S1x8x1024_S1x1x1024_0_1_0) : FVec Ideal S1x1x1024 .f32) (ix3 0 0 d) = x (ix3 0 1 d) := by
  show x ((Rect.unit (s := S1x8x1024) ![0, 1, 0] S1x1x1024.size inb_S1x8x1024_S1x1x1024_0_1_0).idx (ix3 0 0 d)) = _
  refine congrArg x (funext fun a => Fin.ext ?_)
  match a with
  | ⟨0, _⟩ => rfl
  | ⟨1, _⟩ => rfl
  | ⟨2, _⟩ => show 0 + 1 * d.val = d.val; omega

theorem shift_at (x : FVec Ideal S1x8x1024 .f32) (d : Fin 1024) :
    (show FVec Ideal S1x1x1024 .f32 from View.ld (Val := Elt Ideal) (e' := .f32) x (Rect.unit (s := S1x8x1024) ![0, 0, 0] S1x1x1024.size inb_S1x8x1024_S1x1x1024_0_0_0) : FVec Ideal S1x1x1024 .f32) (ix3 0 0 d) = x (ix3 0 0 d) := by
  show x ((Rect.unit (s := S1x8x1024) ![0, 0, 0] S1x1x1024.size inb_S1x8x1024_S1x1x1024_0_0_0).idx (ix3 0 0 d)) = _
  refine congrArg x (funext fun a => Fin.ext ?_)
  match a with
  | ⟨0, _⟩ => rfl
  | ⟨1, _⟩ => rfl
  | ⟨2, _⟩ => show 0 + 1 * d.val = d.val; omega

theorem rows_first (c : Dev nD) (t : Fin cfg0.N) (h0 : t.val % 7 = 0) (r : Fin 2048) (d : Fin 1024) (b : Fin 2) (p : Fin 4096)
    (hR : t.val / 7 * 2048 + r.val = b.val * 4096 + p.val) :
    ((outsAt0 m c t.val t.isLt).2 : FVec Ideal S2048x1024 .bf16) (ix2 r d) = row m c b p d := by
  have hb : b.val = t.val / 14 := by have := r.isLt; have := p.isLt; omega
  rw [first_rows m c t h0]
  refine (rows_at _ _ _ _ r d).trans (modulated_congr (fun d => x_at m c t r d b p hR) (fun d => gain_at m c t d) (fun d => ?_) (fun d => ?_) d)
  · exact (scale_at (iblk m c 1 t) d).trans (mod_at m c t 1 1 rfl d b hb)
  · exact (shift_at (iblk m c 1 t) d).trans (mod_at m c t 0 0 rfl d b hb)

/-- The modulated rows, at every grid point: the later column blocks keep what the first one computed. -/
theorem rows_eq (c : Dev nD) : ∀ (n : ℕ) (hn : n < cfg0.N) (r : Fin 2048) (d : Fin 1024) (b : Fin 2) (p : Fin 4096),
    n / 7 * 2048 + r.val = b.val * 4096 + p.val →
    ((outsAt0 m c n hn).2 : FVec Ideal S2048x1024 .bf16) (ix2 r d) = row m c b p d := by
  intro n
  induction n with
  | zero => exact fun hn r d b p hR => rows_first m c ⟨0, hn⟩ rfl r d b p hR
  | succ n ih =>
    intro hn r d b p hR
    by_cases h0 : (n + 1) % 7 = 0
    · exact rows_first m c ⟨n + 1, hn⟩ h0 r d b p hR
    · have e : (outsAt0 m c (n + 1) hn).2 = (outsAt0 m c n (Nat.lt_of_succ_lt hn)).2 := by
        have e := outsAt0_B m c ⟨n + 1, hn⟩ h0
        exact (congrArg Prod.snd e).trans rfl
      rw [e]
      exact ih _ r d b p (by omega)

theorem out_first (c : Dev nD) (t : Fin cfg0.N) (h0 : t.val % 7 = 0) :
    (outsAt0 m c t.val t.isLt).1 = k0_pay2 (F := Ideal) (outsAt0 m c t.val t.isLt).2 (iblk m c 3 t) := by
  rw [first_rows m c t h0, outsAt0_A m c t h0]
  frame_out
  rfl

theorem out_later (c : Dev nD) (t : Fin cfg0.N) (h0 : ¬t.val % 7 = 0) :
    (outsAt0 m c t.val t.isLt).1 = k0_pay2 (F := Ideal) (outsAt0 m c t.val t.isLt).2 (iblk m c 3 t) := by
  rw [outsAt0_B m c t h0]
  frame_out
  rw [(Memref.isWhole_whole _).read_unread]
  rfl

theorem out_eq (c : Dev nD) (t : Fin cfg0.N) (r : Fin 2048) (n : Fin 1536) (R : Fin 8192) (N : Fin 10752)
    (hR : R.val = t.val / 7 * 2048 + r.val) (hN : N.val = t.val % 7 * 1536 + n.val) :
    ((outsAt0 m c t.val t.isLt).1 : FVec Ideal S2048x1536 .bf16) (ix2 r n)
      = (Cert.ProjectIdeal.Read.val_main_v25 (F := Ideal) (A0 m c) (A1 m c) (A2 m c) (A3 m c) : FVec Ideal S8192x10752 .bf16) (ix2 R N) := by
  have hRl := R.isLt
  have e : (outsAt0 m c t.val t.isLt).1 = k0_pay2 (F := Ideal) (outsAt0 m c t.val t.isLt).2 (iblk m c 3 t) := by
    by_cases h0 : t.val % 7 = 0
    · exact out_first m c t h0
    · exact out_later m c t h0
  rw [e, Cert.ProjectIdeal.At.result_at (A0 m c) (A1 m c) (A2 m c) (A3 m c) ⟨R.val / 4096, by omega⟩ ⟨R.val % 4096, by omega⟩ N R (by show R.val = R.val / 4096 * 4096 + R.val % 4096; omega)]
  refine (prod_at _ _ r n).trans (Finset.sum_congr rfl fun d _ => congrArg₂ (fun a b : EReal => a * b) ?_ (w_at m c t n d N hN))
  exact rows_eq m c t.val t.isLt r d _ _ (by show t.val / 7 * 2048 + r.val = R.val / 4096 * 4096 + R.val % 4096; omega)

/-- The result array. -/
theorem final (c : Dev nD) :
    (dats m 0 c).arrAt 4 cfg0.N = Cert.ProjectIdeal.Read.val_main_v25 (F := Ideal) (A0 m c) (A1 m c) (A2 m c) (A3 m c) := by
  refine (dats m 0 c).arrAt_eq_of_covers 4 _ (by decide +kernel) fun t _ y => ?_
  blk_simp
  rw [after0_4]
  have ht : t.val < 28 := t.isLt
  obtain ⟨z, hz⟩ : ∃ z : S2048x1536.Idx, z = y := ⟨y, rfl⟩
  subst hz
  have hz0 : (z 0).val < 2048 := (z 0).isLt
  have hz1 : (z 1).val < 1536 := (z 1).isLt
  have hE : ((View.whole main_v3).slice (win0_4.rect t)).emb z
      = ix2 (⟨t.val / 7 * 2048 + (z 0).val, by omega⟩ : Fin 8192) (⟨t.val % 7 * 1536 + (z 1).val, by omega⟩ : Fin 10752) := by
    blk_ext [(idx t).2.2.2.2]
  rw [hE]
  refine (congrArg (outsAt0 m c t.val t.isLt).1 (eq_ix2 z)).trans (out_eq m c t _ _ _ _ rfl rfl)

end Cert.InprojIdeal.At

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.ExpertsIdeal
public import proofs.«01_k».proof.Proof.Gen.ExpertsIdeal.Run
public import proofs.«01_k».proof.Proof.Gen.ExpertsIdeal.Read
public import proofs.«01_k».proof.Proof.Gen.ProjectIdeal
public import proofs.«01_k».proof.Proof.Gen.ProjectIdeal.Run
public import proofs.«01_k».proof.Proof.Gen.ProjectIdeal.Read
public import proofs.«01_k».proof.Proof.Gen.Pre_experts_in_range
public import proofs.«01_k».proof.Proof.Finite
public import proofs.«01_k».proof.Proof.Result
public import proofs.«01_k».proof.Proof.MoeFinal
public import proofs.«01_k».proof.Proof.InprojFinal
public import Idealize.ShloMosaic.Adequacy
public import Idealize.ShloMosaic.Init

@[expose] public section

noncomputable section

namespace Cert.Proof

open Idealize.ShloMosaic Idealize.SL.Sem Cert.Kernel

/-- The plain statement's run, with its result as one function of the arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v111)
          = Cert.ReferenceIdeal.Read.val_main_v111 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3) :=
  (θ_run _ _ _).mono
    (fun r h c => ⟨(h c).1.trans (Cert.ReferenceIdeal.Read.val_main_v111_eq (StableHlo.launchContents m c)), (h c).2⟩)
    (Cert.ReferenceIdeal.Value.run m ρ)

/-- The latent attention and its plain statement have equal results. -/
theorem attention [Cert.Pre_finite_qk.Facts] : algebraic_KernelIdeal_ReferenceIdeal_pre_finite_qk := by
  pair_intro
  · run_from Cert.KernelIdeal.Gen.run_main m g
  · refine (θ_run _ _ _).mono (fun r h c => ?_) (reference_run m' g')
    obtain ⟨h0, h1, h3⟩ := Cert.Finite.finite_args _ _ _ _ (hpre c)
    obtain ⟨e0, e1, e2, e3⟩ := hagree c
    refine ⟨(h c).1.trans ?_, (h c).2⟩
    rw [e0, e1, e2, e3]
    exact (Cert.KernelIdeal.Final.final m c h0 h1 h3).symm

/-- The plain experts' run, with its result as one function of the arguments. -/
theorem experts_run (m : (ℓ : Loc Cert.ExpertsIdeal.nD Cert.ExpertsIdeal.τ Cert.ExpertsIdeal.sig) → Buf (Elt Ideal) ℓ)
    (ρ : Dev Cert.ExpertsIdeal.nD → PrngReg) :
    θ_run (Cert.ExpertsIdeal.defs (F := Ideal)) (onTc (τ := Cert.ExpertsIdeal.τ) (Cert.ExpertsIdeal.main (F := Ideal))) ⟨m, fun _ => 0, ρ⟩
      fun r => ∀ c : Dev Cert.ExpertsIdeal.nD,
        r.2.mem ((c.tc : Thread Cert.ExpertsIdeal.nD Cert.ExpertsIdeal.τ).loc Cert.ExpertsIdeal.main_v31)
          = Cert.ExpertsIdeal.Read.val_main_v31 (F := Ideal)
              (m ((c.tc : Thread Cert.ExpertsIdeal.nD Cert.ExpertsIdeal.τ).loc Cert.ExpertsIdeal.main_arg0))
              (m ((c.tc : Thread Cert.ExpertsIdeal.nD Cert.ExpertsIdeal.τ).loc Cert.ExpertsIdeal.main_arg1))
              (m ((c.tc : Thread Cert.ExpertsIdeal.nD Cert.ExpertsIdeal.τ).loc Cert.ExpertsIdeal.main_arg2))
              (m ((c.tc : Thread Cert.ExpertsIdeal.nD Cert.ExpertsIdeal.τ).loc Cert.ExpertsIdeal.main_arg3))
              (m ((c.tc : Thread Cert.ExpertsIdeal.nD Cert.ExpertsIdeal.τ).loc Cert.ExpertsIdeal.main_arg4))
              (m ((c.tc : Thread Cert.ExpertsIdeal.nD Cert.ExpertsIdeal.τ).loc Cert.ExpertsIdeal.main_arg5))
        ∧ r.2.mem ((c.tc : Thread Cert.ExpertsIdeal.nD Cert.ExpertsIdeal.τ).loc Cert.ExpertsIdeal.main_arg0)
            = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1)
            = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2)
            = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3)
            = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4)
            = m ((c.tc : Thread Cert.ExpertsIdeal.nD Cert.ExpertsIdeal.τ).loc Cert.ExpertsIdeal.main_arg4)
        ∧ r.2.mem ((c.tc : Thread Cert.ExpertsIdeal.nD Cert.ExpertsIdeal.τ).loc Cert.ExpertsIdeal.main_arg5)
            = m ((c.tc : Thread Cert.ExpertsIdeal.nD Cert.ExpertsIdeal.τ).loc Cert.ExpertsIdeal.main_arg5) :=
  (θ_run _ _ _).mono
    (fun r h c => ⟨(h c).1.trans (Cert.ExpertsIdeal.Read.val_main_v31_eq _ _ _ _ _ _), (h c).2⟩)
    (Cert.ExpertsIdeal.Value.run m ρ)

/-- The plain projection's run, with its result as one function of the arguments. -/
theorem project_run (m : (ℓ : Loc Cert.ProjectIdeal.nD Cert.ProjectIdeal.τ Cert.ProjectIdeal.sig) → Buf (Elt Ideal) ℓ)
    (ρ : Dev Cert.ProjectIdeal.nD → PrngReg) :
    θ_run (Cert.ProjectIdeal.defs (F := Ideal)) (onTc (τ := Cert.ProjectIdeal.τ) (Cert.ProjectIdeal.main (F := Ideal))) ⟨m, fun _ => 0, ρ⟩
      fun r => ∀ c : Dev Cert.ProjectIdeal.nD,
        r.2.mem ((c.tc : Thread Cert.ProjectIdeal.nD Cert.ProjectIdeal.τ).loc Cert.ProjectIdeal.main_v25)
          = Cert.ProjectIdeal.Read.val_main_v25 (F := Ideal)
              (m ((c.tc : Thread Cert.ProjectIdeal.nD Cert.ProjectIdeal.τ).loc Cert.ProjectIdeal.main_arg0))
              (m ((c.tc : Thread Cert.ProjectIdeal.nD Cert.ProjectIdeal.τ).loc Cert.ProjectIdeal.main_arg1))
              (m ((c.tc : Thread Cert.ProjectIdeal.nD Cert.ProjectIdeal.τ).loc Cert.ProjectIdeal.main_arg2))
              (m ((c.tc : Thread Cert.ProjectIdeal.nD Cert.ProjectIdeal.τ).loc Cert.ProjectIdeal.main_arg3))
        ∧ r.2.mem ((c.tc : Thread Cert.ProjectIdeal.nD Cert.ProjectIdeal.τ).loc Cert.ProjectIdeal.main_arg0)
            = m ((c.tc : Thread Cert.ProjectIdeal.nD Cert.ProjectIdeal.τ).loc Cert.ProjectIdeal.main_arg0)
        ∧ r.2.mem ((c.tc : Thread Cert.ProjectIdeal.nD Cert.ProjectIdeal.τ).loc Cert.ProjectIdeal.main_arg1)
            = m ((c.tc : Thread Cert.ProjectIdeal.nD Cert.ProjectIdeal.τ).loc Cert.ProjectIdeal.main_arg1)
        ∧ r.2.mem ((c.tc : Thread Cert.ProjectIdeal.nD Cert.ProjectIdeal.τ).loc Cert.ProjectIdeal.main_arg2)
            = m ((c.tc : Thread Cert.ProjectIdeal.nD Cert.ProjectIdeal.τ).loc Cert.ProjectIdeal.main_arg2)
        ∧ r.2.mem ((c.tc : Thread Cert.ProjectIdeal.nD Cert.ProjectIdeal.τ).loc Cert.ProjectIdeal.main_arg3)
            = m ((c.tc : Thread Cert.ProjectIdeal.nD Cert.ProjectIdeal.τ).loc Cert.ProjectIdeal.main_arg3) :=
  (θ_run _ _ _).mono
    (fun r h c => ⟨(h c).1.trans (Cert.ProjectIdeal.Read.val_main_v25_eq _ _ _ _), (h c).2⟩)
    (Cert.ProjectIdeal.Value.run m ρ)

/-- The expert numbers in range make every block of the expert kernel's run a block of its array. -/
theorem moe_ok [Cert.Pre_experts_in_range.Facts] (m : (ℓ : Loc Cert.MoeIdeal.nD Cert.MoeIdeal.τ Cert.MoeIdeal.sig) → Buf (Elt Ideal) ℓ)
    (h : Pre_MoeIdeal m) : Cert.MoeIdeal.Own.Ok m :=
  Cert.MoeIdeal.Own.ok_of m fun j => Cert.Range.range_args _ _ _ _ _ _ (h 0) j

/-- The same of the kernel on words. -/
theorem moe_words_ok [Cert.Pre_experts_in_range.Facts] (m : (ℓ : Loc Cert.Moe.nD Cert.Moe.τ Cert.Moe.sig) → Buf (Elt Bits) ℓ)
    (h : Pre_Moe m) : Cert.Moe.Own.Ok m :=
  Cert.Moe.Own.ok_of m fun j => Cert.Range.range_args _ _ _ _ _ _ (h 0) j

/-- The grouped experts and their plain statement have equal results. -/
theorem experts [Cert.Pre_experts_in_range.Facts] : algebraic_MoeIdeal_ExpertsIdeal := by
  intro m g m' g' hpre hagree
  have hO := moe_ok m hpre
  refine ⟨fun c => (Cert.MoeIdeal.Own.dats m hO 0 c).arrAt 4 (Cert.MoeIdeal.Own.cfgM m hO).N, ?_, ?_⟩
  · exact (θ_run _ _ _).mono (fun r h c => h.1 c) (Cert.MoeIdeal.Own.run m g hO)
  · refine (θ_run _ _ _).mono (fun r h c => ?_) (experts_run m' g')
    obtain ⟨e0, e1, e2, e3, e4, e5⟩ := hagree c
    refine ⟨(h c).1.trans ?_, (h c).2⟩
    rw [e0, e1, e2, e3, e4, e5]
    exact (Cert.MoeIdeal.Own.final m hO c fun j => Cert.Range.range_args _ _ _ _ _ _ (hpre c) j).symm

/-- The input projection and its plain statement have equal results. -/
theorem projection : algebraic_InprojIdeal_ProjectIdeal := by
  intro m g m' g' hpre hagree
  refine ⟨fun c => (Cert.InprojIdeal.Gen.dats m 0 c).arrAt 4 Cert.InprojIdeal.cfg0.N, Cert.InprojIdeal.Value.run_blocks m g, ?_⟩
  refine (θ_run _ _ _).mono (fun r h c => ?_) (project_run m' g')
  obtain ⟨e0, e1, e2, e3⟩ := hagree c
  refine ⟨(h c).1.trans ?_, (h c).2⟩
  rw [e0, e1, e2, e3]
  exact (Cert.InprojIdeal.At.final m c).symm

theorem claim : Cert.Claim := ⟨Cert.Kernel.Gen.facts, Cert.KernelIdeal.Gen.facts, Cert.ReferenceIdeal.Gen.facts,
  Cert.Moe.Gen.facts, Cert.MoeIdeal.Gen.facts, Cert.ExpertsIdeal.Gen.facts, Cert.Inproj.Gen.facts, Cert.InprojIdeal.Gen.facts, Cert.ProjectIdeal.Gen.facts,
  Cert.Pre_finite_qk.Gen.facts, Cert.Pre_experts_in_range.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2, sem_eq_zero_of_no_sems rfl _⟩) (Cert.ReferenceIdeal.Value.run m ρ),
  fun m ρ _ => (θ_run _ _ _).mono (fun r h => ⟨fun c => (h c).2, sem_eq_zero_of_no_sems rfl _⟩) (Cert.ReferenceIdeal.Value.run m ρ),
  fun m ρ h => Cert.Moe.Own.frame m ρ (moe_words_ok m h),
  fun m ρ h => Cert.MoeIdeal.Own.frame m ρ (moe_ok m h),
  fun m ρ _ => (θ_run _ _ _).mono (fun r h => ⟨fun c => (h c).2, sem_eq_zero_of_no_sems rfl _⟩) (Cert.ExpertsIdeal.Value.run m ρ),
  fun m ρ _ => (θ_run _ _ _).mono (fun r h => ⟨fun c => (h c).2, sem_eq_zero_of_no_sems rfl _⟩) (Cert.ExpertsIdeal.Value.run m ρ),
  fun m ρ _ => Cert.Inproj.Gen.frame m ρ,
  fun m ρ _ => Cert.InprojIdeal.Gen.frame m ρ,
  fun m ρ _ => (θ_run _ _ _).mono (fun r h => ⟨fun c => (h c).2, sem_eq_zero_of_no_sems rfl _⟩) (Cert.ProjectIdeal.Value.run m ρ),
  IdealRules.named_const.statement Cert.KernelIdeal.κ "qs" .f32 0x3E0293EE#32 _ rfl,
  attention,
  trivial,
  experts,
  trivial,
  projection⟩

end Cert.Proof

end
